-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)) (v3 : (c : Dev Cert.KernelIdeal.nD) → Buf (Elt Ideal) ((c.tc : Thread Cert.KernelIdeal.nD Cert.KernelIdeal.τ).loc Cert.KernelIdeal.main_v22_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_v22_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32_0) = v0 c
          ∧ r.2.mem ((c.tc : Thread Cert.ReferenceIdeal.nD Cert.ReferenceIdeal.τ).loc Cert.ReferenceIdeal.main_v32_1) = v1 c
          ∧ r.2.mem ((c.tc : Thread Cert.ReferenceIdeal.nD Cert.ReferenceIdeal.τ).loc Cert.ReferenceIdeal.main_v32_2) = v2 c
          ∧ r.2.mem ((c.tc : Thread Cert.ReferenceIdeal.nD Cert.ReferenceIdeal.τ).loc Cert.ReferenceIdeal.main_v32_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x2048x1024 : Shape := ⟨3, ![32, 2048, 1024]⟩
abbrev S1024 : Shape := ⟨1, ![1024]⟩
abbrev S1024x192 : Shape := ⟨2, ![1024, 192]⟩
abbrev S192 : Shape := ⟨1, ![192]⟩
abbrev S48 : Shape := ⟨1, ![48]⟩
abbrev S_ : Shape := ⟨0, ![]⟩
abbrev S2048 : Shape := ⟨1, ![2048]⟩
abbrev S1x2048 : Shape := ⟨2, ![1, 2048]⟩
abbrev S48x1 : Shape := ⟨2, ![48, 1]⟩
abbrev S48x2048 : Shape := ⟨2, ![48, 2048]⟩
abbrev S1x1024 : Shape := ⟨2, ![1, 1024]⟩
abbrev S192x1024 : Shape := ⟨2, ![192, 1024]⟩
abbrev S1x192 : Shape := ⟨2, ![1, 192]⟩
abbrev S32x192x2048 : Shape := ⟨3, ![32, 192, 2048]⟩
abbrev S32x2x2048 : Shape := ⟨3, ![32, 2, 2048]⟩
abbrev S1x1024x1024 : Shape := ⟨3, ![1, 1024, 1024]⟩
abbrev S1x192x1024 : Shape := ⟨3, ![1, 192, 1024]⟩
abbrev S1x2x1024 : Shape := ⟨3, ![1, 2, 1024]⟩
abbrev S384x1024 : Shape := ⟨2, ![384, 1024]⟩
abbrev S512x1024 : Shape := ⟨2, ![512, 1024]⟩
abbrev S384x512 : Shape := ⟨2, ![384, 512]⟩
abbrev S192x2048 : Shape := ⟨2, ![192, 2048]⟩
abbrev S192x128 : Shape := ⟨2, ![192, 128]⟩
abbrev S128x128 : Shape := ⟨2, ![128, 128]⟩
abbrev S16x128 : Shape := ⟨2, ![16, 128]⟩
abbrev S128x192 : Shape := ⟨2, ![128, 192]⟩
abbrev S48x128 : Shape := ⟨2, ![48, 128]⟩
abbrev S1x16x128 : Shape := ⟨3, ![1, 16, 128]⟩
abbrev S16 : Shape := ⟨1, ![16]⟩
abbrev S16x1 : Shape := ⟨2, ![16, 1]⟩
abbrev S1x128 : Shape := ⟨2, ![1, 128]⟩
abbrev S8x128 : Shape := ⟨2, ![8, 128]⟩
abbrev S96x128 : Shape := ⟨2, ![96, 128]⟩
abbrev S1x1x128 : Shape := ⟨3, ![1, 1, 128]⟩
abbrev S1x96x128 : Shape := ⟨3, ![1, 96, 128]⟩

abbrev nBuf : Space → Nat
  | .hbm => 35
  | .vmem => 27
  | .smem => 0
  | _ => 0

abbrev bufTy : (tb : Table) → Fin (tcTables nBuf tb) → BufTy
  | .hbm, ⟨0, _⟩ => ⟨S32x2048x1024, .bf16⟩
  | .hbm, ⟨1, _⟩ => ⟨S1024, .f32⟩
  | .hbm, ⟨2, _⟩ => ⟨S1024x192, .fp8e4m3⟩
  | .hbm, ⟨3, _⟩ => ⟨S192, .f32⟩
  | .hbm, ⟨4, _⟩ => ⟨S1024x192, .fp8e4m3⟩
  | .hbm, ⟨5, _⟩ => ⟨S192, .f32⟩
  | .hbm, ⟨6, _⟩ => ⟨S48, .f32⟩
  | .hbm, ⟨7, _⟩ => ⟨S_, .f32⟩
  | .hbm, ⟨8, _⟩ => ⟨S48, .f32⟩
  | .hbm, ⟨9, _⟩ => ⟨S48, .f32⟩
  | .hbm, ⟨10, _⟩ => ⟨S48, .f32⟩
  | .hbm, ⟨11, _⟩ => ⟨S_, .f32⟩
  | .hbm, ⟨12, _⟩ => ⟨S48, .f32⟩
  | .hbm, ⟨13, _⟩ => ⟨S48, .f32⟩
  | .hbm, ⟨14, _⟩ => ⟨S_, .f32⟩
  | .hbm, ⟨15, _⟩ => ⟨S48, .f32⟩
  | .hbm, ⟨16, _⟩ => ⟨S48, .f32⟩
  | .hbm, ⟨17, _⟩ => ⟨S2048, .i32⟩
  | .hbm, ⟨18, _⟩ => ⟨S2048, .f32⟩
  | .hbm, ⟨19, _⟩ => ⟨S1x2048, .f32⟩
  | .hbm, ⟨20, _⟩ => ⟨S48x1, .f32⟩
  | .hbm, ⟨21, _⟩ => ⟨S48x2048, .f32⟩
  | .hbm, ⟨22, _⟩ => ⟨S48x2048, .f32⟩
  | .hbm, ⟨23, _⟩ => ⟨S48x2048, .f32⟩
  | .hbm, ⟨24, _⟩ => ⟨S48x2048, .f32⟩
  | .hbm, ⟨25, _⟩ => ⟨S48x2048, .f32⟩
  | .hbm, ⟨26, _⟩ => ⟨S1x1024, .f32⟩
  | .hbm, ⟨27, _⟩ => ⟨S192x1024, .fp8e4m3⟩
  | .hbm, ⟨28, _⟩ => ⟨S192x1024, .fp8e4m3⟩
  | .hbm, ⟨29, _⟩ => ⟨S1x192, .f32⟩
  | .hbm, ⟨30, _⟩ => ⟨S1x192, .f32⟩
  | .hbm, ⟨31, _⟩ => ⟨S32x192x2048, .fp8e4m3⟩
  | .hbm, ⟨32, _⟩ => ⟨S32x2x2048, .f32⟩
  | .hbm, ⟨33, _⟩ => ⟨S32x192x2048, .fp8e4m3⟩
  | .hbm, ⟨34, _⟩ => ⟨S32x2x2048, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024, .f32⟩
  | .local _ .vmem, ⟨3, _⟩ => ⟨S192x1024, .fp8e4m3⟩
  | .local _ .vmem, ⟨4, _⟩ => ⟨S192x1024, .fp8e4m3⟩
  | .local _ .vmem, ⟨5, _⟩ => ⟨S1x192, .f32⟩
  | .local _ .vmem, ⟨6, _⟩ => ⟨S1x192, .f32⟩
  | .local _ .vmem, ⟨7, _⟩ => ⟨S48x2048, .f32⟩
  | .local _ .vmem, ⟨8, _⟩ => ⟨S48x2048, .f32⟩
  | .local _ .vmem, ⟨9, _⟩ => ⟨S1x192x1024, .fp8e4m3⟩
  | .local _ .vmem, ⟨10, _⟩ => ⟨S1x192x1024, .fp8e4m3⟩
  | .local _ .vmem, ⟨11, _⟩ => ⟨S1x2x1024, .f32⟩
  | .local _ .vmem, ⟨12, _⟩ => ⟨S1x2x1024, .f32⟩
  | .local _ .vmem, ⟨13, _⟩ => ⟨S1x192x1024, .fp8e4m3⟩
  | .local _ .vmem, ⟨14, _⟩ => ⟨S1x192x1024, .fp8e4m3⟩
  | .local _ .vmem, ⟨15, _⟩ => ⟨S1x2x1024, .f32⟩
  | .local _ .vmem, ⟨16, _⟩ => ⟨S1x2x1024, .f32⟩
  | .local _ .vmem, ⟨17, _⟩ => ⟨S384x1024, .bf16⟩
  | .local _ .vmem, ⟨18, _⟩ => ⟨S512x1024, .bf16⟩
  | .local _ .vmem, ⟨19, _⟩ => ⟨S512x1024, .bf16⟩
  | .local _ .vmem, ⟨20, _⟩ => ⟨S384x512, .f32⟩
  | .local _ .vmem, ⟨21, _⟩ => ⟨S384x512, .f32⟩
  | .local _ .vmem, ⟨22, _⟩ => ⟨S192x2048, .f32⟩
  | .local _ .vmem, ⟨23, _⟩ => ⟨S192x2048, .f32⟩
  | .local _ .vmem, ⟨24, _⟩ => ⟨S192x128, .f32⟩
  | .local _ .vmem, ⟨25, _⟩ => ⟨S128x128, .f32⟩
  | .local _ .vmem, ⟨26, _⟩ => ⟨S16x128, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![65], ![false]⟩

def k0_mult1 (i : grid0.Coords) : BitVec 32 :=
  let arg0 : BitVec 32 := BitVec.ofNat 32 (i 0).val
  let c1_i32 : BitVec 32 := 1#32
  let v5 : BitVec 32 := Scalar.subi arg0 c1_i32
  let c0_i32_2 : BitVec 32 := 0#32
  let v6 : BitVec 32 := Scalar.maxsi v5 c0_i32_2
  let c2_i32 : BitVec 32 := 2#32
  let v7 : BitVec 32 := Scalar.remsi v6 c2_i32
  let c1024_i32 : BitVec 32 := 1024#32
  let v8 : BitVec 32 := Scalar.muli v7 c1024_i32
  v8
def k0_off1 (i : grid0.Coords) (c0_i32_2118 : BitVec 32) : Fin 2 → Nat :=
  let c0_2123 : Index := 0#32
  let arg0 : BitVec 32 := BitVec.ofNat 32 (i 0).val
  let c1_i32 : BitVec 32 := 1#32
  let v5 : BitVec 32 := Scalar.subi arg0 c1_i32
  let c0_i32_2 : BitVec 32 := 0#32
  let v6 : BitVec 32 := Scalar.maxsi v5 c0_i32_2
  let c2_i32 : BitVec 32 := 2#32
  let v7 : BitVec 32 := Scalar.remsi v6 c2_i32
  let c1024_i32 : BitVec 32 := 1024#32
  let v8 : BitVec 32 := Scalar.muli v7 c1024_i32
  let v9 : BitVec 32 := v8
  let v4560 : BitVec 32 := Scalar.addi v9 c0_i32_2118
  let v4563 : Index := Scalar.indexCast v4560
  ![0, v4563.toNat]
def k0_off2 (i : grid0.Coords) (c0_i32_2118 : BitVec 32) : Fin 2 → Nat :=
  let c48_2125 : Index := 48#32
  let arg0 : BitVec 32 := BitVec.ofNat 32 (i 0).val
  let c1_i32 : BitVec 32 := 1#32
  let v5 : BitVec 32 := Scalar.subi arg0 c1_i32
  let c0_i32_2 : BitVec 32 := 0#32
  let v6 : BitVec 32 := Scalar.maxsi v5 c0_i32_2
  let c2_i32 : BitVec 32 := 2#32
  let v7 : BitVec 32 := Scalar.remsi v6 c2_i32
  let c1024_i32 : BitVec 32 := 1024#32
  let v8 : BitVec 32 := Scalar.muli v7 c1024_i32
  let v9 : BitVec 32 := v8
  let v4560 : BitVec 32 := Scalar.addi v9 c0_i32_2118
  let v4570 : Index := Scalar.indexCast v4560
  ![48, v4570.toNat]
def k0_off3 (i : grid0.Coords) (c0_i32_2173 : BitVec 32) : Fin 2 → Nat :=
  let c96_2178 : Index := 96#32
  let arg0 : BitVec 32 := BitVec.ofNat 32 (i 0).val
  let c1_i32 : BitVec 32 := 1#32
  let v5 : BitVec 32 := Scalar.subi arg0 c1_i32
  let c0_i32_2 : BitVec 32 := 0#32
  let v6 : BitVec 32 := Scalar.maxsi v5 c0_i32_2
  let c2_i32 : BitVec 32 := 2#32
  let v7 : BitVec 32 := Scalar.remsi v6 c2_i32
  let c1024_i32 : BitVec 32 := 1024#32
  let v8 : BitVec 32 := Scalar.muli v7 c1024_i32
  let v9 : BitVec 32 := v8
  let v4804 : BitVec 32 := Scalar.addi v9 c0_i32_2173
  let v4807 : Index := Scalar.indexCast v4804
  ![96, v4807.toNat]
def k0_off4 (i : grid0.Coords) (c0_i32_2173 : BitVec 32) : Fin 2 → Nat :=
  let c144_2180 : Index := 144#32
  let arg0 : BitVec 32 := BitVec.ofNat 32 (i 0).val
  let c1_i32 : BitVec 32 := 1#32
  let v5 : BitVec 32 := Scalar.subi arg0 c1_i32
  let c0_i32_2 : BitVec 32 := 0#32
  let v6 : BitVec 32 := Scalar.maxsi v5 c0_i32_2
  let c2_i32 : BitVec 32 := 2#32
  let v7 : BitVec 32 := Scalar.remsi v6 c2_i32
  let c1024_i32 : BitVec 32 := 1024#32
  let v8 : BitVec 32 := Scalar.muli v7 c1024_i32
  let v9 : BitVec 32 := v8
  let v4804 : BitVec 32 := Scalar.addi v9 c0_i32_2173
  let v4814 : Index := Scalar.indexCast v4804
  ![144, v4814.toNat]
def k0_off5 (i : grid0.Coords) (c0_i32_4643 : BitVec 32) : Fin 2 → Nat :=
  let c0_4648 : Index := 0#32
  let arg0 : BitVec 32 := BitVec.ofNat 32 (i 0).val
  let c1_i32 : BitVec 32 := 1#32
  let v5 : BitVec 32 := Scalar.subi arg0 c1_i32
  let c0_i32_2 : BitVec 32 := 0#32
  let v6 : BitVec 32 := Scalar.maxsi v5 c0_i32_2
  let c2_i32 : BitVec 32 := 2#32
  let v7 : BitVec 32 := Scalar.remsi v6 c2_i32
  let c1024_i32 : BitVec 32 := 1024#32
  let v8 : BitVec 32 := Scalar.muli v7 c1024_i32
  let v9 : BitVec 32 := v8
  let c512_i32 : BitVec 32 := 512#32
  let v10312 : BitVec 32 := Scalar.addi v9 c512_i32
  let v10313 : BitVec 32 := Scalar.addi v10312 c0_i32_4643
  let v10316 : Index := Scalar.indexCast v10313
  ![0, v10316.toNat]
def k0_off6 (i : grid0.Coords) (c0_i32_4643 : BitVec 32) : Fin 2 → Nat :=
  let c48_4650 : Index := 48#32
  let arg0 : BitVec 32 := BitVec.ofNat 32 (i 0).val
  let c1_i32 : BitVec 32 := 1#32
  let v5 : BitVec 32 := Scalar.subi arg0 c1_i32
  let c0_i32_2 : BitVec 32 := 0#32
  let v6 : BitVec 32 := Scalar.maxsi v5 c0_i32_2
  let c2_i32 : BitVec 32 := 2#32
  let v7 : BitVec 32 := Scalar.remsi v6 c2_i32
  let c1024_i32 : BitVec 32 := 1024#32
  let v8 : BitVec 32 := Scalar.muli v7 c1024_i32
  let v9 : BitVec 32 := v8
  let c512_i32 : BitVec 32 := 512#32
  let v10312 : BitVec 32 := Scalar.addi v9 c512_i32
  let v10313 : BitVec 32 := Scalar.addi v10312 c0_i32_4643
  let v10323 : Index := Scalar.indexCast v10313
  ![48, v10323.toNat]
def k0_off7 (i : grid0.Coords) (c0_i32_4703 : BitVec 32) : Fin 2 → Nat :=
  let c96_4708 : Index := 96#32
  let arg0 : BitVec 32 := BitVec.ofNat 32 (i 0).val
  let c1_i32 : BitVec 32 := 1#32
  let v5 : BitVec 32 := Scalar.subi arg0 c1_i32
  let c0_i32_2 : BitVec 32 := 0#32
  let v6 : BitVec 32 := Scalar.maxsi v5 c0_i32_2
  let c2_i32 : BitVec 32 := 2#32
  let v7 : BitVec 32 := Scalar.remsi v6 c2_i32
  let c1024_i32 : BitVec 32 := 1024#32
  let v8 : BitVec 32 := Scalar.muli v7 c1024_i32
  let v9 : BitVec 32 := v8
  let c512_i32 : BitVec 32 := 512#32
  let v10312 : BitVec 32 := Scalar.addi v9 c512_i32
  let v10557 : BitVec 32 := Scalar.addi v10312 c0_i32_4703
  let v10560 : Index := Scalar.indexCast v10557
  ![96, v10560.toNat]
def k0_off8 (i : grid0.Coords) (c0_i32_4703 : BitVec 32) : Fin 2 → Nat :=
  let c144_4710 : Index := 144#32
  let arg0 : BitVec 32 := BitVec.ofNat 32 (i 0).val
  let c1_i32 : BitVec 32 := 1#32
  let v5 : BitVec 32 := Scalar.subi arg0 c1_i32
  let c0_i32_2 : BitVec 32 := 0#32
  let v6 : BitVec 32 := Scalar.maxsi v5 c0_i32_2
  let c2_i32 : BitVec 32 := 2#32
  let v7 : BitVec 32 := Scalar.remsi v6 c2_i32
  let c1024_i32 : BitVec 32 := 1024#32
  let v8 : BitVec 32 := Scalar.muli v7 c1024_i32
  let v9 : BitVec 32 := v8
  let c512_i32 : BitVec 32 := 512#32
  let v10312 : BitVec 32 := Scalar.addi v9 c512_i32
  let v10557 : BitVec 32 := Scalar.addi v10312 c0_i32_4703
  let v10567 : Index := Scalar.indexCast v10557
  ![144, v10567.toNat]
def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat, v28.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x192x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x192x1024 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S32x2048x1024 : Shape := ⟨3, ![32, 2048, 1024]⟩
abbrev S1024 : Shape := ⟨1, ![1024]⟩
abbrev S1024x192 : Shape := ⟨2, ![1024, 192]⟩
abbrev S192 : Shape := ⟨1, ![192]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S48 : Shape := ⟨1, ![48]⟩
abbrev S2048 : Shape := ⟨1, ![2048]⟩
abbrev S2048x1 : Shape := ⟨2, ![2048, 1]⟩
abbrev S1x48 : Shape := ⟨2, ![1, 48]⟩
abbrev S2048x48 : Shape := ⟨2, ![2048, 48]⟩
abbrev S32x192x2048 : Shape := ⟨3, ![32, 192, 2048]⟩
abbrev S32x2x2048 : Shape := ⟨3, ![32, 2, 2048]⟩
abbrev S1x2048x1x48 : Shape := ⟨4, ![1, 2048, 1, 48]⟩
abbrev S32x2048x192 : Shape := ⟨3, ![32, 2048, 192]⟩
abbrev S1x1x192 : Shape := ⟨3, ![1, 1, 192]⟩
abbrev S32x2048x2x96 : Shape := ⟨4, ![32, 2048, 2, 96]⟩
abbrev S32x2048x2x48 : Shape := ⟨4, ![32, 2048, 2, 48]⟩
abbrev S32x2048x2 : Shape := ⟨3, ![32, 2048, 2]⟩
abbrev S32x2048x2x1 : Shape := ⟨4, ![32, 2048, 2, 1]⟩
abbrev S32x2x96x2048 : Shape := ⟨4, ![32, 2, 96, 2048]⟩

abbrev nBuf : Space → Nat
  | .hbm => 48
  | .vmem => 11
  | .smem => 0
  | _ => 0

abbrev bufTy : (tb : Table) → Fin (tcTables nBuf tb) → BufTy
  | .hbm, ⟨0, _⟩ => ⟨S32x2048x1024, .bf16⟩
  | .hbm, ⟨1, _⟩ => ⟨S1024, .f32⟩
  | .hbm, ⟨2, _⟩ => ⟨S1024x192, .fp8e4m3⟩
  | .hbm, ⟨3, _⟩ => ⟨S192, .f32⟩
  | .hbm, ⟨4, _⟩ => ⟨S1024x192, .fp8e4m3⟩
  | .hbm, ⟨5, _⟩ => ⟨S192, .f32⟩
  | .hbm, ⟨6, _⟩ => ⟨S32x2048x1024, .f32⟩
  | .hbm, ⟨7, _⟩ => ⟨S32x2048x1024, .f32⟩
  | .hbm, ⟨8, _⟩ => ⟨S_, .f32⟩
  | .hbm, ⟨9, _⟩ => ⟨S32x2048, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S_, .f32⟩
  | .hbm, ⟨15, _⟩ => ⟨S32x2048x1, .f32⟩
  | .hbm, ⟨16, _⟩ => ⟨S32x2048x1, .f32⟩
  | .hbm, ⟨17, _⟩ => ⟨S32x2048x1, .f32⟩
  | .hbm, ⟨18, _⟩ => ⟨S32x2048x1024, .f32⟩
  | .hbm, ⟨19, _⟩ => ⟨S32x2048x1024, .f32⟩
  | .hbm, ⟨20, _⟩ => ⟨S1x1x1024, .f32⟩
  | .hbm, ⟨21, _⟩ => ⟨S32x2048x1024, .f32⟩
  | .hbm, ⟨22, _⟩ => ⟨S32x2048x1024, .f32⟩
  | .hbm, ⟨23, _⟩ => ⟨S32x2048x1024, .bf16⟩
  | .hbm, ⟨24, _⟩ => ⟨S48, .f32⟩
  | .hbm, ⟨25, _⟩ => ⟨S_, .f32⟩
  | .hbm, ⟨26, _⟩ => ⟨S48, .f32⟩
  | .hbm, ⟨27, _⟩ => ⟨S48, .f32⟩
  | .hbm, ⟨28, _⟩ => ⟨S48, .f32⟩
  | .hbm, ⟨29, _⟩ => ⟨S_, .f32⟩
  | .hbm, ⟨30, _⟩ => ⟨S48, .f32⟩
  | .hbm, ⟨31, _⟩ => ⟨S48, .f32⟩
  | .hbm, ⟨32, _⟩ => ⟨S_, .f32⟩
  | .hbm, ⟨33, _⟩ => ⟨S48, .f32⟩
  | .hbm, ⟨34, _⟩ => ⟨S48, .f32⟩
  | .hbm, ⟨35, _⟩ => ⟨S2048, .i32⟩
  | .hbm, ⟨36, _⟩ => ⟨S2048, .f32⟩
  | .hbm, ⟨37, _⟩ => ⟨S2048x1, .f32⟩
  | .hbm, ⟨38, _⟩ => ⟨S1x48, .f32⟩
  | .hbm, ⟨39, _⟩ => ⟨S2048x48, .f32⟩
  | .hbm, ⟨40, _⟩ => ⟨S2048x48, .f32⟩
  | .hbm, ⟨41, _⟩ => ⟨S2048x48, .f32⟩
  | .hbm, ⟨42, _⟩ => ⟨S2048x48, .f32⟩
  | .hbm, ⟨43, _⟩ => ⟨S2048x48, .f32⟩
  | .hbm, ⟨44, _⟩ => ⟨S32x192x2048, .fp8e4m3⟩
  | .hbm, ⟨45, _⟩ => ⟨S32x2x2048, .f32⟩
  | .hbm, ⟨46, _⟩ => ⟨S32x192x2048, .fp8e4m3⟩
  | .hbm, ⟨47, _⟩ => ⟨S32x2x2048, .f32⟩
  | .local _ .vmem, ⟨0, _⟩ => ⟨S32x2048x1024, .bf16⟩
  | .local _ .vmem, ⟨1, _⟩ => ⟨S1024x192, .fp8e4m3⟩
  | .local _ .vmem, ⟨2, _⟩ => ⟨S192, .f32⟩
  | .local _ .vmem, ⟨3, _⟩ => ⟨S1024x192, .fp8e4m3⟩
  | .local _ .vmem, ⟨4, _⟩ => ⟨S192, .f32⟩
  | .local _ .vmem, ⟨5, _⟩ => ⟨S2048x48, .f32⟩
  | .local _ .vmem, ⟨6, _⟩ => ⟨S2048x48, .f32⟩
  | .local _ .vmem, ⟨7, _⟩ => ⟨S32x192x2048, .fp8e4m3⟩
  | .local _ .vmem, ⟨8, _⟩ => ⟨S32x2x2048, .f32⟩
  | .local _ .vmem, ⟨9, _⟩ => ⟨S32x192x2048, .fp8e4m3⟩
  | .local _ .vmem, ⟨10, _⟩ => ⟨S32x2x2048, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev main_v32_2 : Ref sig .tc := ⟨.hbm, 46, rfl⟩
abbrev main_v32_3 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S32x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x192x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x2x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x192x2048 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x2x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.RunKernel.lean ====
/-
  The kernel body, run once: it ends, and leaves its inputs as they were.
-/
module

public import proofs.«01_k».proof.Proof.Gen.Kernel.Skeleton
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- The body runs, from any contents of its buffers, to its end with the inputs as they were. -/
theorem kernelRun (c : Dev nD) (i : grid0.Coords)
    (M1 : Memref sig .tc .vmem S1x1024x1024 .bf16) (h1 : M1.IsWhole)
    (M2 : Memref sig .tc .vmem S1x1024 .f32) (h2 : M2.IsWhole)
    (M3 : Memref sig .tc .vmem S192x1024 .fp8e4m3) (h3 : M3.IsWhole)
    (M4 : Memref sig .tc .vmem S192x1024 .fp8e4m3) (h4 : M4.IsWhole)
    (M5 : Memref sig .tc .vmem S1x192 .f32) (h5 : M5.IsWhole)
    (M6 : Memref sig .tc .vmem S1x192 .f32) (h6 : M6.IsWhole)
    (M7 : Memref sig .tc .vmem S48x2048 .f32) (h7 : M7.IsWhole)
    (M8 : Memref sig .tc .vmem S48x2048 .f32) (h8 : M8.IsWhole)
    (M9 : Memref sig .tc .vmem S1x192x1024 .fp8e4m3) (h9 : M9.IsWhole)
    (M10 : Memref sig .tc .vmem S1x2x1024 .f32) (h10 : M10.IsWhole)
    (M11 : Memref sig .tc .vmem S1x192x1024 .fp8e4m3) (h11 : M11.IsWhole)
    (M12 : Memref sig .tc .vmem S1x2x1024 .f32) (h12 : M12.IsWhole)
    (M13 : Memref sig .tc .vmem S384x1024 .bf16) (h13 : M13.IsWhole)
    (M14 : Memref sig .tc .vmem S512x1024 .bf16) (h14 : M14.IsWhole)
    (M15 : Memref sig .tc .vmem S512x1024 .bf16) (h15 : M15.IsWhole)
    (M16 : Memref sig .tc .vmem S384x512 .f32) (h16 : M16.IsWhole)
    (M17 : Memref sig .tc .vmem S384x512 .f32) (h17 : M17.IsWhole)
    (M18 : Memref sig .tc .vmem S192x2048 .f32) (h18 : M18.IsWhole)
    (M19 : Memref sig .tc .vmem S192x2048 .f32) (h19 : M19.IsWhole)
    (M20 : Memref sig .tc .vmem S192x128 .f32) (h20 : M20.IsWhole)
    (M21 : Memref sig .tc .vmem S128x128 .f32) (h21 : M21.IsWhole)
    (M22 : Memref sig .tc .vmem S16x128 .f32) (h22 : M22.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f13 : Bf (F := F) c M13) (f15 : Bf (F := F) c M15) (f16 : Bf (F := F) c M16) (f18 : Bf (F := F) c M18) (f19 : Bf (F := F) c M19) (f20 : Bf (F := F) c M20) (f9 : Bf (F := F) c M9) (f10 : Bf (F := F) c M10) (f11 : Bf (F := F) c M11) (f12 : Bf (F := F) c M12) (f14 : Bf (F := F) c M14) (f17 : Bf (F := F) c M17) (f21 : Bf (F := F) c M21) (f22 : Bf (F := F) c M22)
    (E : Set ℕ) (Q : PUnit → sProp 𝕄) :
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22
          ∗ (iprop(pt c M1 f1 ∗ pt c M2 f2 ∗ pt c M3 f3 ∗ pt c M4 f4 ∗ pt c M5 f5 ∗ pt c M6 f6 ∗ pt c M7 f7 ∗ pt c M8 f8 ∗ (∃ f, pt c M9 f) ∗ (∃ f, pt c M10 f) ∗ (∃ f, pt c M11 f) ∗ (∃ f, pt c M12 f) ∗ (∃ f, pt c M13 f) ∗ (∃ f, pt c M14 f) ∗ (∃ f, pt c M15 f) ∗ (∃ f, pt c M16 f) ∗ (∃ f, pt c M17 f) ∗ (∃ f, pt c M18 f) ∗ (∃ f, pt c M19 f) ∗ (∃ f, pt c M20 f) ∗ (∃ f, pt c M21 f) ∗ (∃ f, pt c M22 f)) -∗ Q ⟨⟩))
        ⊢ wp frame (wpE (defs₀ (F := F)) Variants.none c none) E (cc0_kv i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22) Q := by
    iintro ⟨H1, H2, H3, H4, H5, H6, H7, H8, H9, H10, H11, H12, H13, H14, H15, H16, H17, H18, H19, H20, H21, H22, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22

end Cert.Kernel.Hand

end
-- ==== Proof.FrameKernel.lean ====
/-
  The frame of the kernel: every run of its program ends, with the arguments unchanged and all semaphores at zero. The
  four outputs are forgotten (held at anything); the scratch buffers are held at anything between grid points.
-/
module

public import proofs.«01_k».proof.Proof.RunKernel

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Owning a whole memref at read contents `X` is holding its buffer at some contents that read `X`. -/
theorem owns_of_whole (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns pt; rw [h.set_eq_univ]

/-- The staging buffer of window 0 at point `t`, likewise. -/
theorem owns_st0 (c : Dev nD) (t : Fin cfg0.N) (X) : (owns (c : Thread nD τ) (st0_0 t) fullShare X : sProp 𝕄)
    = iprop(∃ f : Bf (F := F) c (st0_0 t), ⌜(st0_0 t).view.read (Elt F) f = X⌝ ∗ pt c (st0_0 t) f) :=
  owns_of_whole c _ (hstage0_0 ((cfg0.slots t 0).cast nbuf0_0)) X
/-- The staging buffer of window 1 at point `t`, likewise. -/
theorem owns_st1 (c : Dev nD) (t : Fin cfg0.N) (X) : (owns (c : Thread nD τ) (st0_1 t) fullShare X : sProp 𝕄)
    = iprop(∃ f : Bf (F := F) c (st0_1 t), ⌜(st0_1 t).view.read (Elt F) f = X⌝ ∗ pt c (st0_1 t) f) :=
  owns_of_whole c _ (hstage0_1 ((cfg0.slots t 1).cast nbuf0_1)) X
/-- The staging buffer of window 2 at point `t`, likewise. -/
theorem owns_st2 (c : Dev nD) (t : Fin cfg0.N) (X) : (owns (c : Thread nD τ) (st0_2 t) fullShare X : sProp 𝕄)
    = iprop(∃ f : Bf (F := F) c (st0_2 t), ⌜(st0_2 t).view.read (Elt F) f = X⌝ ∗ pt c (st0_2 t) f) :=
  owns_of_whole c _ (hstage0_2 ((cfg0.slots t 2).cast nbuf0_2)) X
/-- The staging buffer of window 3 at point `t`, likewise. -/
theorem owns_st3 (c : Dev nD) (t : Fin cfg0.N) (X) : (owns (c : Thread nD τ) (st0_3 t) fullShare X : sProp 𝕄)
    = iprop(∃ f : Bf (F := F) c (st0_3 t), ⌜(st0_3 t).view.read (Elt F) f = X⌝ ∗ pt c (st0_3 t) f) :=
  owns_of_whole c _ (hstage0_3 ((cfg0.slots t 3).cast nbuf0_3)) X
/-- The staging buffer of window 4 at point `t`, likewise. -/
theorem owns_st4 (c : Dev nD) (t : Fin cfg0.N) (X) : (owns (c : Thread nD τ) (st0_4 t) fullShare X : sProp 𝕄)
    = iprop(∃ f : Bf (F := F) c (st0_4 t), ⌜(st0_4 t).view.read (Elt F) f = X⌝ ∗ pt c (st0_4 t) f) :=
  owns_of_whole c _ (hstage0_4 ((cfg0.slots t 4).cast nbuf0_4)) X
/-- The staging buffer of window 5 at point `t`, likewise. -/
theorem owns_st5 (c : Dev nD) (t : Fin cfg0.N) (X) : (owns (c : Thread nD τ) (st0_5 t) fullShare X : sProp 𝕄)
    = iprop(∃ f : Bf (F := F) c (st0_5 t), ⌜(st0_5 t).view.read (Elt F) f = X⌝ ∗ pt c (st0_5 t) f) :=
  owns_of_whole c _ (hstage0_5 ((cfg0.slots t 5).cast nbuf0_5)) X
/-- The staging buffer of window 6 at point `t`, likewise. -/
theorem owns_st6 (c : Dev nD) (t : Fin cfg0.N) (X) : (owns (c : Thread nD τ) (st0_6 t) fullShare X : sProp 𝕄)
    = iprop(∃ f : Bf (F := F) c (st0_6 t), ⌜(st0_6 t).view.read (Elt F) f = X⌝ ∗ pt c (st0_6 t) f) :=
  owns_of_whole c _ (hstage0_6 ((cfg0.slots t 6).cast nbuf0_6)) X
/-- The staging buffer of window 7 at point `t`, likewise. -/
theorem owns_st7 (c : Dev nD) (t : Fin cfg0.N) (X) : (owns (c : Thread nD τ) (st0_7 t) fullShare X : sProp 𝕄)
    = iprop(∃ f : Bf (F := F) c (st0_7 t), ⌜(st0_7 t).view.read (Elt F) f = X⌝ ∗ pt c (st0_7 t) f) :=
  owns_of_whole c _ (hstage0_7 ((cfg0.slots t 7).cast nbuf0_7)) X
/-- The staging buffer of window 8 at point `t`, likewise. -/
theorem owns_st8 (c : Dev nD) (t : Fin cfg0.N) (X) : (owns (c : Thread nD τ) (st0_8 t) fullShare X : sProp 𝕄)
    = iprop(∃ f : Bf (F := F) c (st0_8 t), ⌜(st0_8 t).view.read (Elt F) f = X⌝ ∗ pt c (st0_8 t) f) :=
  owns_of_whole c _ (hstage0_8 ((cfg0.slots t 8).cast nbuf0_8)) X
/-- The staging buffer of window 9 at point `t`, likewise. -/
theorem owns_st9 (c : Dev nD) (t : Fin cfg0.N) (X) : (owns (c : Thread nD τ) (st0_9 t) fullShare X : sProp 𝕄)
    = iprop(∃ f : Bf (F := F) c (st0_9 t), ⌜(st0_9 t).view.read (Elt F) f = X⌝ ∗ pt c (st0_9 t) f) :=
  owns_of_whole c _ (hstage0_9 ((cfg0.slots t 9).cast nbuf0_9)) X
/-- The staging buffer of window 10 at point `t`, likewise. -/
theorem owns_st10 (c : Dev nD) (t : Fin cfg0.N) (X) : (owns (c : Thread nD τ) (st0_10 t) fullShare X : sProp 𝕄)
    = iprop(∃ f : Bf (F := F) c (st0_10 t), ⌜(st0_10 t).view.read (Elt F) f = X⌝ ∗ pt c (st0_10 t) f) :=
  owns_of_whole c _ (hstage0_10 ((cfg0.slots t 10).cast nbuf0_10)) X
/-- The staging buffer of window 11 at point `t`, likewise. -/
theorem owns_st11 (c : Dev nD) (t : Fin cfg0.N) (X) : (owns (c : Thread nD τ) (st0_11 t) fullShare X : sProp 𝕄)
    = iprop(∃ f : Bf (F := F) c (st0_11 t), ⌜(st0_11 t).view.read (Elt F) f = X⌝ ∗ pt c (st0_11 t) f) :=
  owns_of_whole c _ (hstage0_11 ((cfg0.slots t 11).cast nbuf0_11)) X

/-- The windows whose contents the frame forgets: the four outputs. -/
def fgt (w : Fin cfg0.W) : Bool := decide (8 ≤ w.val)

/-- The proof data: the arrays as the region finds them, each input's block left in place, the outputs' entries unused
    (forgotten), the invariant the scratch buffers at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ _ := Pipeline.ΦA spec0 c
  q _ := fullShare
  owed _ := 0

/-- The proof data's arrays are the region's. -/
theorem A_eq (c : Dev nD) (w : Fin cfg0.W) : (dats m 0 c).A w = V m c (Pipeline.arrRef spec0 w) := by
  dsimp only [dats]

/-- The body leaves input window 0 at its block; -/
theorem after0_0 (c : Dev nD) (t : Fin cfg0.N) : (dats m 0 c).after 0 t = iblk m c 0 t := by dsimp only [dats]
/-- and finds it there. -/
theorem before0_0 (c : Dev nD) (t : Fin cfg0.N) (d) : (dats m 0 c).before 0 t d = iblk m c 0 t :=
  before0_0_of m (dats m 0 c) (A_eq m c 0) (after0_0 m c) t d
/-- The body leaves input window 1 at its block; -/
theorem after0_1 (c : Dev nD) (t : Fin cfg0.N) : (dats m 0 c).after 1 t = iblk m c 1 t := by dsimp only [dats]
/-- and finds it there. -/
theorem before0_1 (c : Dev nD) (t : Fin cfg0.N) (d) : (dats m 0 c).before 1 t d = iblk m c 1 t :=
  before0_1_of m (dats m 0 c) (A_eq m c 1) (after0_1 m c) t d
/-- The body leaves input window 2 at its block; -/
theorem after0_2 (c : Dev nD) (t : Fin cfg0.N) : (dats m 0 c).after 2 t = iblk m c 2 t := by dsimp only [dats]
/-- and finds it there. -/
theorem before0_2 (c : Dev nD) (t : Fin cfg0.N) (d) : (dats m 0 c).before 2 t d = iblk m c 2 t :=
  before0_2_of m (dats m 0 c) (A_eq m c 2) (after0_2 m c) t d
/-- The body leaves input window 3 at its block; -/
theorem after0_3 (c : Dev nD) (t : Fin cfg0.N) : (dats m 0 c).after 3 t = iblk m c 3 t := by dsimp only [dats]
/-- and finds it there. -/
theorem before0_3 (c : Dev nD) (t : Fin cfg0.N) (d) : (dats m 0 c).before 3 t d = iblk m c 3 t :=
  before0_3_of m (dats m 0 c) (A_eq m c 3) (after0_3 m c) t d
/-- The body leaves input window 4 at its block; -/
theorem after0_4 (c : Dev nD) (t : Fin cfg0.N) : (dats m 0 c).after 4 t = iblk m c 4 t := by dsimp only [dats]
/-- and finds it there. -/
theorem before0_4 (c : Dev nD) (t : Fin cfg0.N) (d) : (dats m 0 c).before 4 t d = iblk m c 4 t :=
  before0_4_of m (dats m 0 c) (A_eq m c 4) (after0_4 m c) t d
/-- The body leaves input window 5 at its block; -/
theorem after0_5 (c : Dev nD) (t : Fin cfg0.N) : (dats m 0 c).after 5 t = iblk m c 5 t := by dsimp only [dats]
/-- and finds it there. -/
theorem before0_5 (c : Dev nD) (t : Fin cfg0.N) (d) : (dats m 0 c).before 5 t d = iblk m c 5 t :=
  before0_5_of m (dats m 0 c) (A_eq m c 5) (after0_5 m c) t d
/-- The body leaves input window 6 at its block; -/
theorem after0_6 (c : Dev nD) (t : Fin cfg0.N) : (dats m 0 c).after 6 t = iblk m c 6 t := by dsimp only [dats]
/-- and finds it there. -/
theorem before0_6 (c : Dev nD) (t : Fin cfg0.N) (d) : (dats m 0 c).before 6 t d = iblk m c 6 t :=
  before0_6_of m (dats m 0 c) (A_eq m c 6) (after0_6 m c) t d
/-- The body leaves input window 7 at its block; -/
theorem after0_7 (c : Dev nD) (t : Fin cfg0.N) : (dats m 0 c).after 7 t = iblk m c 7 t := by dsimp only [dats]
/-- and finds it there. -/
theorem before0_7 (c : Dev nD) (t : Fin cfg0.N) (d) : (dats m 0 c).before 7 t d = iblk m c 7 t :=
  before0_7_of m (dats m 0 c) (A_eq m c 7) (after0_7 m c) t d
/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

set_option maxHeartbeats 1600000 in
/-- The body at any point: the inputs' buffers hold their blocks and still do at the end. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, after0_5, after0_6, after0_7]
  unfold Pipeline.ΦA
  rw [scopedRest0_eq]
  simp only [owns_st0, owns_st1, owns_st2, owns_st3, owns_st4, owns_st5, owns_st6, owns_st7, owns_st8, owns_st9, owns_st10, owns_st11]
  iintro ⟨⟨⟨⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩⟩, Hg⟩, Ho, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%X9, %f9, -, H9⟩, ⟨%X10, %f10, -, H10⟩, ⟨%X11, %f11, -, H11⟩, ⟨%X12, %f12, -, H12⟩⟩
  iapply (kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) f1 f2 f3 f4 f5 f6 f7 f8 f13 f15 f16 f18 f19 f20 f9 f10 f11 f12 f14 f17 f21 f22 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H1, H2, H3, H4, H5, H6, H7, H8, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩, ⟨%g22, H22⟩⟩
  isplitl [H13 H14 H15 H16 H17 H18 H19 H20 H21 H22 Hg]
  · isplitr [Hg]
    · isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      iexists _; iexact H22
    · iexact Hg
  isplitl [Ho]; · iexact Ho
  isplitl [H1]; · iexists f1; isplitr; (· ipureintro; exact hf1); iexact H1
  isplitl [H2]; · iexists f2; isplitr; (· ipureintro; exact hf2); iexact H2
  isplitl [H3]; · iexists f3; isplitr; (· ipureintro; exact hf3); iexact H3
  isplitl [H4]; · iexists f4; isplitr; (· ipureintro; exact hf4); iexact H4
  isplitl [H5]; · iexists f5; isplitr; (· ipureintro; exact hf5); iexact H5
  isplitl [H6]; · iexists f6; isplitr; (· ipureintro; exact hf6); iexact H6
  isplitl [H7]; · iexists f7; isplitr; (· ipureintro; exact hf7); iexact H7
  isplitl [H8]; · iexists f8; isplitr; (· ipureintro; exact hf8); iexact H8
  isplitl [H9]; · iexists _; iexists g9; isplitr; (· ipureintro; rfl); iexact H9
  isplitl [H10]; · iexists _; iexists g10; isplitr; (· ipureintro; rfl); iexact H10
  isplitl [H11]; · iexists _; iexists g11; isplitr; (· ipureintro; rfl); iexact H11
  iexists _; iexists g12; isplitr; (· ipureintro; rfl); iexact H12

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The body obligation at every point, the outputs forgotten. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The launch: every run ends, every input array and every other buffer as the region found it, all counters zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: every run ends, the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.Kernel.Hand

end
-- ==== Proof.RunIdeal.lean ====
/-
  The idealized kernel body, run once.
-/
module

public import proofs.«01_k».proof.Proof.Gen.KernelIdeal.Skeleton
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- The body run once at a symbolic grid point and symbolic buffers: from the inputs at `f1 … f8`, the carried scratch at
    `f13, f15, f16, f18, f19, f20` and everything else at anything, it ends with the inputs as they were and the four
    outputs and the carried scratch at the contents the run finds (the subtype's witnesses). -/
noncomputable def kernelRun (c : Dev nD) (i : grid0.Coords)
    (M1 : Memref sig .tc .vmem S1x1024x1024 .bf16) (h1 : M1.IsWhole)
    (M2 : Memref sig .tc .vmem S1x1024 .f32) (h2 : M2.IsWhole)
    (M3 : Memref sig .tc .vmem S192x1024 .fp8e4m3) (h3 : M3.IsWhole)
    (M4 : Memref sig .tc .vmem S192x1024 .fp8e4m3) (h4 : M4.IsWhole)
    (M5 : Memref sig .tc .vmem S1x192 .f32) (h5 : M5.IsWhole)
    (M6 : Memref sig .tc .vmem S1x192 .f32) (h6 : M6.IsWhole)
    (M7 : Memref sig .tc .vmem S48x2048 .f32) (h7 : M7.IsWhole)
    (M8 : Memref sig .tc .vmem S48x2048 .f32) (h8 : M8.IsWhole)
    (M9 : Memref sig .tc .vmem S1x192x1024 .fp8e4m3) (h9 : M9.IsWhole)
    (M10 : Memref sig .tc .vmem S1x2x1024 .f32) (h10 : M10.IsWhole)
    (M11 : Memref sig .tc .vmem S1x192x1024 .fp8e4m3) (h11 : M11.IsWhole)
    (M12 : Memref sig .tc .vmem S1x2x1024 .f32) (h12 : M12.IsWhole)
    (M13 : Memref sig .tc .vmem S384x1024 .bf16) (h13 : M13.IsWhole)
    (M14 : Memref sig .tc .vmem S512x1024 .bf16) (h14 : M14.IsWhole)
    (M15 : Memref sig .tc .vmem S512x1024 .bf16) (h15 : M15.IsWhole)
    (M16 : Memref sig .tc .vmem S384x512 .f32) (h16 : M16.IsWhole)
    (M17 : Memref sig .tc .vmem S384x512 .f32) (h17 : M17.IsWhole)
    (M18 : Memref sig .tc .vmem S192x2048 .f32) (h18 : M18.IsWhole)
    (M19 : Memref sig .tc .vmem S192x2048 .f32) (h19 : M19.IsWhole)
    (M20 : Memref sig .tc .vmem S192x128 .f32) (h20 : M20.IsWhole)
    (M21 : Memref sig .tc .vmem S128x128 .f32) (h21 : M21.IsWhole)
    (M22 : Memref sig .tc .vmem S16x128 .f32) (h22 : M22.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f13 : Bf (F := F) c M13) (f15 : Bf (F := F) c M15) (f16 : Bf (F := F) c M16) (f18 : Bf (F := F) c M18) (f19 : Bf (F := F) c M19) (f20 : Bf (F := F) c M20) :
    { W : Bf (F := F) c M9 × Bf (F := F) c M10 × Bf (F := F) c M11 × Bf (F := F) c M12 × Bf (F := F) c M13 × Bf (F := F) c M15 × Bf (F := F) c M16 × Bf (F := F) c M18 × Bf (F := F) c M19 × Bf (F := F) c M20 //
      ∀ (f9 : Bf (F := F) c M9) (f10 : Bf (F := F) c M10) (f11 : Bf (F := F) c M11) (f12 : Bf (F := F) c M12) (f14 : Bf (F := F) c M14) (f17 : Bf (F := F) c M17) (f21 : Bf (F := F) c M21) (f22 : Bf (F := F) c M22) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22
          ∗ (iprop(pt c M1 f1 ∗ pt c M2 f2 ∗ pt c M3 f3 ∗ pt c M4 f4 ∗ pt c M5 f5 ∗ pt c M6 f6 ∗ pt c M7 f7 ∗ pt c M8 f8 ∗ pt c M9 (W.1) ∗ pt c M10 (W.2.1) ∗ pt c M11 (W.2.2.1) ∗ pt c M12 (W.2.2.2.1) ∗ pt c M13 (W.2.2.2.2.1) ∗ (∃ f, pt c M14 f) ∗ pt c M15 (W.2.2.2.2.2.1) ∗ pt c M16 (W.2.2.2.2.2.2.1) ∗ (∃ f, pt c M17 f) ∗ pt c M18 (W.2.2.2.2.2.2.2.1) ∗ pt c M19 (W.2.2.2.2.2.2.2.2.1) ∗ pt c M20 (W.2.2.2.2.2.2.2.2.2) ∗ (∃ f, pt c M21 f) ∗ (∃ f, pt c M22 f)) -∗ Q ⟨⟩))
        ⊢ wp frame (wpE (defs₀ (F := F)) Variants.none c none) E (cc0_kv i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22) Q } := by
  refine ⟨⟨?_, ?_, ?_, ?_, ?_, ?_, ?_, ?_, ?_, ?_⟩, fun f9 f10 f11 f12 f14 f17 f21 f22 E Q => ?run⟩
  case run =>
    iintro ⟨H1, H2, H3, H4, H5, H6, H7, H8, H9, H10, H11, H12, H13, H14, H15, H16, H17, H18, H19, H20, H21, H22, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexact H15
    isplitl [H16]; · iexact H16
    isplitl [H17]; · iexists _; iexact H17
    isplitl [H18]; · iexact H18
    isplitl [H19]; · iexact H19
    isplitl [H20]; · iexact H20
    isplitl [H21]; · iexists _; iexact H21
    iexists _; iexact H22

end Cert.KernelIdeal.Hand

end
-- ==== Proof.FrameIdeal.lean ====
/-
  The frame of the kernel: every run of its program ends, with the arguments unchanged and all semaphores at zero. The
  four outputs are forgotten (held at anything); the scratch buffers are held at anything between grid points.
-/
module

public import proofs.«01_k».proof.Proof.RunIdeal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Owning a whole memref at read contents `X` is holding its buffer at some contents that read `X`. -/
theorem owns_of_whole (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns pt; rw [h.set_eq_univ]

/-- The staging buffer of window 0 at point `t`, likewise. -/
theorem owns_st0 (c : Dev nD) (t : Fin cfg0.N) (X) : (owns (c : Thread nD τ) (st0_0 t) fullShare X : sProp 𝕄)
    = iprop(∃ f : Bf (F := F) c (st0_0 t), ⌜(st0_0 t).view.read (Elt F) f = X⌝ ∗ pt c (st0_0 t) f) :=
  owns_of_whole c _ (hstage0_0 ((cfg0.slots t 0).cast nbuf0_0)) X
/-- The staging buffer of window 1 at point `t`, likewise. -/
theorem owns_st1 (c : Dev nD) (t : Fin cfg0.N) (X) : (owns (c : Thread nD τ) (st0_1 t) fullShare X : sProp 𝕄)
    = iprop(∃ f : Bf (F := F) c (st0_1 t), ⌜(st0_1 t).view.read (Elt F) f = X⌝ ∗ pt c (st0_1 t) f) :=
  owns_of_whole c _ (hstage0_1 ((cfg0.slots t 1).cast nbuf0_1)) X
/-- The staging buffer of window 2 at point `t`, likewise. -/
theorem owns_st2 (c : Dev nD) (t : Fin cfg0.N) (X) : (owns (c : Thread nD τ) (st0_2 t) fullShare X : sProp 𝕄)
    = iprop(∃ f : Bf (F := F) c (st0_2 t), ⌜(st0_2 t).view.read (Elt F) f = X⌝ ∗ pt c (st0_2 t) f) :=
  owns_of_whole c _ (hstage0_2 ((cfg0.slots t 2).cast nbuf0_2)) X
/-- The staging buffer of window 3 at point `t`, likewise. -/
theorem owns_st3 (c : Dev nD) (t : Fin cfg0.N) (X) : (owns (c : Thread nD τ) (st0_3 t) fullShare X : sProp 𝕄)
    = iprop(∃ f : Bf (F := F) c (st0_3 t), ⌜(st0_3 t).view.read (Elt F) f = X⌝ ∗ pt c (st0_3 t) f) :=
  owns_of_whole c _ (hstage0_3 ((cfg0.slots t 3).cast nbuf0_3)) X
/-- The staging buffer of window 4 at point `t`, likewise. -/
theorem owns_st4 (c : Dev nD) (t : Fin cfg0.N) (X) : (owns (c : Thread nD τ) (st0_4 t) fullShare X : sProp 𝕄)
    = iprop(∃ f : Bf (F := F) c (st0_4 t), ⌜(st0_4 t).view.read (Elt F) f = X⌝ ∗ pt c (st0_4 t) f) :=
  owns_of_whole c _ (hstage0_4 ((cfg0.slots t 4).cast nbuf0_4)) X
/-- The staging buffer of window 5 at point `t`, likewise. -/
theorem owns_st5 (c : Dev nD) (t : Fin cfg0.N) (X) : (owns (c : Thread nD τ) (st0_5 t) fullShare X : sProp 𝕄)
    = iprop(∃ f : Bf (F := F) c (st0_5 t), ⌜(st0_5 t).view.read (Elt F) f = X⌝ ∗ pt c (st0_5 t) f) :=
  owns_of_whole c _ (hstage0_5 ((cfg0.slots t 5).cast nbuf0_5)) X
/-- The staging buffer of window 6 at point `t`, likewise. -/
theorem owns_st6 (c : Dev nD) (t : Fin cfg0.N) (X) : (owns (c : Thread nD τ) (st0_6 t) fullShare X : sProp 𝕄)
    = iprop(∃ f : Bf (F := F) c (st0_6 t), ⌜(st0_6 t).view.read (Elt F) f = X⌝ ∗ pt c (st0_6 t) f) :=
  owns_of_whole c _ (hstage0_6 ((cfg0.slots t 6).cast nbuf0_6)) X
/-- The staging buffer of window 7 at point `t`, likewise. -/
theorem owns_st7 (c : Dev nD) (t : Fin cfg0.N) (X) : (owns (c : Thread nD τ) (st0_7 t) fullShare X : sProp 𝕄)
    = iprop(∃ f : Bf (F := F) c (st0_7 t), ⌜(st0_7 t).view.read (Elt F) f = X⌝ ∗ pt c (st0_7 t) f) :=
  owns_of_whole c _ (hstage0_7 ((cfg0.slots t 7).cast nbuf0_7)) X
/-- The staging buffer of window 8 at point `t`, likewise. -/
theorem owns_st8 (c : Dev nD) (t : Fin cfg0.N) (X) : (owns (c : Thread nD τ) (st0_8 t) fullShare X : sProp 𝕄)
    = iprop(∃ f : Bf (F := F) c (st0_8 t), ⌜(st0_8 t).view.read (Elt F) f = X⌝ ∗ pt c (st0_8 t) f) :=
  owns_of_whole c _ (hstage0_8 ((cfg0.slots t 8).cast nbuf0_8)) X
/-- The staging buffer of window 9 at point `t`, likewise. -/
theorem owns_st9 (c : Dev nD) (t : Fin cfg0.N) (X) : (owns (c : Thread nD τ) (st0_9 t) fullShare X : sProp 𝕄)
    = iprop(∃ f : Bf (F := F) c (st0_9 t), ⌜(st0_9 t).view.read (Elt F) f = X⌝ ∗ pt c (st0_9 t) f) :=
  owns_of_whole c _ (hstage0_9 ((cfg0.slots t 9).cast nbuf0_9)) X
/-- The staging buffer of window 10 at point `t`, likewise. -/
theorem owns_st10 (c : Dev nD) (t : Fin cfg0.N) (X) : (owns (c : Thread nD τ) (st0_10 t) fullShare X : sProp 𝕄)
    = iprop(∃ f : Bf (F := F) c (st0_10 t), ⌜(st0_10 t).view.read (Elt F) f = X⌝ ∗ pt c (st0_10 t) f) :=
  owns_of_whole c _ (hstage0_10 ((cfg0.slots t 10).cast nbuf0_10)) X
/-- The staging buffer of window 11 at point `t`, likewise. -/
theorem owns_st11 (c : Dev nD) (t : Fin cfg0.N) (X) : (owns (c : Thread nD τ) (st0_11 t) fullShare X : sProp 𝕄)
    = iprop(∃ f : Bf (F := F) c (st0_11 t), ⌜(st0_11 t).view.read (Elt F) f = X⌝ ∗ pt c (st0_11 t) f) :=
  owns_of_whole c _ (hstage0_11 ((cfg0.slots t 11).cast nbuf0_11)) X

/-- The windows whose contents the frame forgets: the four outputs. -/
def fgt (w : Fin cfg0.W) : Bool := decide (8 ≤ w.val)

/-- The proof data: the arrays as the region finds them, each input's block left in place, the outputs' entries unused
    (forgotten), the invariant the scratch buffers at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ _ := Pipeline.ΦA spec0 c
  q _ := fullShare
  owed _ := 0

/-- The proof data's arrays are the region's. -/
theorem A_eq (c : Dev nD) (w : Fin cfg0.W) : (dats m 0 c).A w = V m c (Pipeline.arrRef spec0 w) := by
  dsimp only [dats]

/-- The body leaves input window 0 at its block; -/
theorem after0_0 (c : Dev nD) (t : Fin cfg0.N) : (dats m 0 c).after 0 t = iblk m c 0 t := by dsimp only [dats]
/-- and finds it there. -/
theorem before0_0 (c : Dev nD) (t : Fin cfg0.N) (d) : (dats m 0 c).before 0 t d = iblk m c 0 t :=
  before0_0_of m (dats m 0 c) (A_eq m c 0) (after0_0 m c) t d
/-- The body leaves input window 1 at its block; -/
theorem after0_1 (c : Dev nD) (t : Fin cfg0.N) : (dats m 0 c).after 1 t = iblk m c 1 t := by dsimp only [dats]
/-- and finds it there. -/
theorem before0_1 (c : Dev nD) (t : Fin cfg0.N) (d) : (dats m 0 c).before 1 t d = iblk m c 1 t :=
  before0_1_of m (dats m 0 c) (A_eq m c 1) (after0_1 m c) t d
/-- The body leaves input window 2 at its block; -/
theorem after0_2 (c : Dev nD) (t : Fin cfg0.N) : (dats m 0 c).after 2 t = iblk m c 2 t := by dsimp only [dats]
/-- and finds it there. -/
theorem before0_2 (c : Dev nD) (t : Fin cfg0.N) (d) : (dats m 0 c).before 2 t d = iblk m c 2 t :=
  before0_2_of m (dats m 0 c) (A_eq m c 2) (after0_2 m c) t d
/-- The body leaves input window 3 at its block; -/
theorem after0_3 (c : Dev nD) (t : Fin cfg0.N) : (dats m 0 c).after 3 t = iblk m c 3 t := by dsimp only [dats]
/-- and finds it there. -/
theorem before0_3 (c : Dev nD) (t : Fin cfg0.N) (d) : (dats m 0 c).before 3 t d = iblk m c 3 t :=
  before0_3_of m (dats m 0 c) (A_eq m c 3) (after0_3 m c) t d
/-- The body leaves input window 4 at its block; -/
theorem after0_4 (c : Dev nD) (t : Fin cfg0.N) : (dats m 0 c).after 4 t = iblk m c 4 t := by dsimp only [dats]
/-- and finds it there. -/
theorem before0_4 (c : Dev nD) (t : Fin cfg0.N) (d) : (dats m 0 c).before 4 t d = iblk m c 4 t :=
  before0_4_of m (dats m 0 c) (A_eq m c 4) (after0_4 m c) t d
/-- The body leaves input window 5 at its block; -/
theorem after0_5 (c : Dev nD) (t : Fin cfg0.N) : (dats m 0 c).after 5 t = iblk m c 5 t := by dsimp only [dats]
/-- and finds it there. -/
theorem before0_5 (c : Dev nD) (t : Fin cfg0.N) (d) : (dats m 0 c).before 5 t d = iblk m c 5 t :=
  before0_5_of m (dats m 0 c) (A_eq m c 5) (after0_5 m c) t d
/-- The body leaves input window 6 at its block; -/
theorem after0_6 (c : Dev nD) (t : Fin cfg0.N) : (dats m 0 c).after 6 t = iblk m c 6 t := by dsimp only [dats]
/-- and finds it there. -/
theorem before0_6 (c : Dev nD) (t : Fin cfg0.N) (d) : (dats m 0 c).before 6 t d = iblk m c 6 t :=
  before0_6_of m (dats m 0 c) (A_eq m c 6) (after0_6 m c) t d
/-- The body leaves input window 7 at its block; -/
theorem after0_7 (c : Dev nD) (t : Fin cfg0.N) : (dats m 0 c).after 7 t = iblk m c 7 t := by dsimp only [dats]
/-- and finds it there. -/
theorem before0_7 (c : Dev nD) (t : Fin cfg0.N) (d) : (dats m 0 c).before 7 t d = iblk m c 7 t :=
  before0_7_of m (dats m 0 c) (A_eq m c 7) (after0_7 m c) t d
/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

set_option maxHeartbeats 1600000 in
/-- The body at any point: the inputs' buffers hold their blocks and still do at the end. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, after0_5, after0_6, after0_7]
  unfold Pipeline.ΦA
  rw [scopedRest0_eq]
  simp only [owns_st0, owns_st1, owns_st2, owns_st3, owns_st4, owns_st5, owns_st6, owns_st7, owns_st8, owns_st9, owns_st10, owns_st11]
  iintro ⟨⟨⟨⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩⟩, Hg⟩, Ho, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%X9, %f9, -, H9⟩, ⟨%X10, %f10, -, H10⟩, ⟨%X11, %f11, -, H11⟩, ⟨%X12, %f12, -, H12⟩⟩
  obtain ⟨⟨g9, g10, g11, g12, g13, g15, g16, g18, g19, g20⟩, hK⟩ := kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) f1 f2 f3 f4 f5 f6 f7 f8 f13 f15 f16 f18 f19 f20
  dsimp only at hK
  iapply (hK f9 f10 f11 f12 f14 f17 f21 f22 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H1, H2, H3, H4, H5, H6, H7, H8, H9, H10, H11, H12, H13, ⟨%g14, H14⟩, H15, H16, ⟨%g17, H17⟩, H18, H19, H20, ⟨%g21, H21⟩, ⟨%g22, H22⟩⟩
  isplitl [H13 H14 H15 H16 H17 H18 H19 H20 H21 H22 Hg]
  · isplitr [Hg]
    · isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      iexists _; iexact H22
    · iexact Hg
  isplitl [Ho]; · iexact Ho
  isplitl [H1]; · iexists f1; isplitr; (· ipureintro; exact hf1); iexact H1
  isplitl [H2]; · iexists f2; isplitr; (· ipureintro; exact hf2); iexact H2
  isplitl [H3]; · iexists f3; isplitr; (· ipureintro; exact hf3); iexact H3
  isplitl [H4]; · iexists f4; isplitr; (· ipureintro; exact hf4); iexact H4
  isplitl [H5]; · iexists f5; isplitr; (· ipureintro; exact hf5); iexact H5
  isplitl [H6]; · iexists f6; isplitr; (· ipureintro; exact hf6); iexact H6
  isplitl [H7]; · iexists f7; isplitr; (· ipureintro; exact hf7); iexact H7
  isplitl [H8]; · iexists f8; isplitr; (· ipureintro; exact hf8); iexact H8
  isplitl [H9]; · iexists _; iexists g9; isplitr; (· ipureintro; rfl); iexact H9
  isplitl [H10]; · iexists _; iexists g10; isplitr; (· ipureintro; rfl); iexact H10
  isplitl [H11]; · iexists _; iexists g11; isplitr; (· ipureintro; rfl); iexact H11
  iexists _; iexists g12; isplitr; (· ipureintro; rfl); iexact H12

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The body obligation at every point, the outputs forgotten. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The launch: every run ends, every input array and every other buffer as the region found it, all counters zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: every run ends, the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.KernelIdeal.Hand

end
-- ==== Proof.Spec.lean ====
/-
  What the kernel computes, column by column: the specification both programs are compared with.
-/
module

public import Idealize.ShloMosaic.Lib.Pointwise

@[expose] public section

noncomputable section

namespace Cert.Spec

open Idealize.ShloMosaic

/-- Where a box of unit strides puts an index. -/
theorem unit_idx_val {s : Shape} (off size : Fin s.rank → ℕ) (inb) (x : (Rect.unit (s := s) off size inb).toLoadRect.shape.Idx) (a : Fin s.rank) :
    ((Rect.unit (s := s) off size inb).toLoadRect.idx x a).val = off a + (x a).val := by
  show off a + 1 * (x a).val = _
  omega

/-- One row of activations, RMS-normalised and multiplied by the gain. -/
def nrm (x g : Fin 1024 → EReal) (k : Fin 1024) : EReal :=
  x k * Ideal.rsqrt ((∑ k, x k * x k) * Ideal.ofBits .f32 0x3A800000#32 + Ideal.ofBits .f32 0x358637BD#32) * g k

/-- A row of the projected keys (rows 0–191) and values (rows 192–383), scaled and, for the keys, rotated: `P` the unscaled
    products, `ta`, `tb` the two rotation tables of the position (the key scales folded in), `sv` the value scales. -/
def rot (P : Fin 384 → EReal) (ta tb sv : Fin 192 → EReal) (r : Fin 384) : EReal :=
  if h : r.val < 192 then
    if h48 : r.val % 96 < 48 then P r * ta ⟨r.val, h⟩ + P ⟨r.val + 48, by omega⟩ * tb ⟨r.val, h⟩
    else P r * ta ⟨r.val, h⟩ + P ⟨r.val - 48, by omega⟩ * tb ⟨r.val, h⟩
  else P r * sv ⟨r.val - 192, by have := r.isLt; omega⟩

/-- `max` over the 12 rows of head `q` that are `s` modulo 8. -/
def max12 (o : Fin 384 → EReal) (q : Fin 4) (s : Fin 8) : EReal :=
  let f : Fin 12 → EReal := fun j => max (o ⟨q.val * 96 + (j.val * 8 + s.val), by omega⟩) (-o ⟨q.val * 96 + (j.val * 8 + s.val), by omega⟩)
  max (max (max (max (max (max (max (max (max (max (max (f 0) (f 1)) (f 2)) (f 3)) (f 4)) (f 5)) (f 6)) (f 7)) (f 8)) (f 9)) (f 10)) (f 11)

/-- The largest absolute value in head `q`. -/
def amax (o : Fin 384 → EReal) (q : Fin 4) : EReal :=
  let f := max12 o q
  max (max (max (max (max (max (max (f 0) (f 1)) (f 2)) (f 3)) (f 4)) (f 5)) (f 6)) (f 7)

/-- The exponent of the scale before any correction: `⌊log t / log 2⌋`, -/
def e0 (t : EReal) : EReal := Ideal.liftRound Int.floor (Ideal.div (Ideal.log t) (Ideal.log (Ideal.ofBits .f32 0x40000000#32)))
/-- corrected downwards -/
def e1 (t : EReal) : EReal := if t < Ideal.exp2 (e0 t) then e0 t - Ideal.ofBits .f32 0x3F800000#32 else e0 t
/-- and upwards. -/
def e2 (t : EReal) : EReal :=
  if Ideal.exp2 (e1 t + Ideal.ofBits .f32 0x3F800000#32) ≤ t then e1 t + Ideal.ofBits .f32 0x3F800000#32 else e1 t

/-- Where a scale is needed. -/
def normal (t : EReal) : Prop := Ideal.ofBits .f32 0x00000000#32 < t ∧ t < Ideal.ofBits .f32 0x7F800000#32

instance (t : EReal) : Decidable (normal t) := instDecidableAnd

/-- The largest value divided by the largest code. -/
def tOf (a : EReal) : EReal := a * Ideal.ofBits .f32 0x3B124925#32

/-- The scale of a head whose largest absolute value is `a`, -/
def scaleF (a : EReal) : EReal :=
  if normal (tOf a) then Ideal.exp2 (e2 (tOf a) + Ideal.ofBits .f32 0x3F800000#32) else Ideal.ofBits .f32 0x3F800000#32
/-- its reciprocal, -/
def invF (a : EReal) : EReal :=
  if normal (tOf a) then Ideal.exp2 (Ideal.ofBits .f32 0x00000000#32 - (e2 (tOf a) + Ideal.ofBits .f32 0x3F800000#32)) else Ideal.ofBits .f32 0x3F800000#32
/-- and a code. -/
def codeF (o inv : EReal) : EReal := min (Ideal.ofBits .f32 0x43E00000#32) (max (Ideal.ofBits .f32 0xC3E00000#32) (o * inv))

end Cert.Spec
-- ==== Proof.Carried.lean ====
/-
  What the body reads of the scratch it carries from point to point: as the previous point left it, or, at the first
  point, as the body's own preamble fills it.
-/
module

public import proofs.«01_k».proof.Proof.RunIdeal
public import proofs.«01_k».proof.Proof.Spec
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords)

/-- The writes of the cosine table, -/
def L18 (M5 : Memref sig .tc .vmem S1x192 .f32) (M7 : Memref sig .tc .vmem S48x2048 .f32) (f5 : Bf (F := Ideal) c M5) (f7 : Bf (F := Ideal) c M7) :
    List (View.Piece (Elt Ideal) S192x2048 .f32) :=
  ⟨Rect.unit ![144, 1920] S48x128.size inb_S192x2048_S48x128_144_1920, k0_pay241 (kernelRun.sl.r_62 c M7 f7) (kernelRun.sl.r_65 c M5 f5)⟩ ::
  ⟨Rect.unit ![96, 1920] S48x128.size inb_S192x2048_S48x128_96_1920, k0_pay240 (kernelRun.sl.r_66 c M5 M7 f5 f7)⟩ ::
  ⟨Rect.unit ![48, 1920] S48x128.size inb_S192x2048_S48x128_48_1920, k0_pay234 (kernelRun.sl.r c M5 f5)
    (View.readAt (Elt Ideal) M7.view (Rect.unit (s := S48x2048) ![0, 1920] S48x128.size inb_S48x2048_S48x128_0_1920).toLoadRect f7)⟩ ::
  ⟨Rect.unit ![0, 1920] S48x128.size inb_S192x2048_S48x128_0_1920, k0_pay233 (kernelRun.sl.r c M5 f5)
    (View.readAt (Elt Ideal) M7.view (Rect.unit (s := S48x2048) ![0, 1920] S48x128.size inb_S48x2048_S48x128_0_1920).toLoadRect f7)⟩ ::
  kernelRun.sl.H18_60 c M5 M7 f5 f7

/-- and of the sine table. -/
def L19 (M5 : Memref sig .tc .vmem S1x192 .f32) (M8 : Memref sig .tc .vmem S48x2048 .f32) (f5 : Bf (F := Ideal) c M5) (f8 : Bf (F := Ideal) c M8) :
    List (View.Piece (Elt Ideal) S192x2048 .f32) :=
  ⟨Rect.unit ![144, 1920] S48x128.size inb_S192x2048_S48x128_144_1920, k0_pay243 (kernelRun.sl.r_63 c M8 f8) (kernelRun.sl.r_64 c M5 f5)⟩ ::
  ⟨Rect.unit ![96, 1920] S48x128.size inb_S192x2048_S48x128_96_1920, k0_pay242 (kernelRun.sl.r_63 c M8 f8) (kernelRun.sl.r_65 c M5 f5)⟩ ::
  ⟨Rect.unit ![48, 1920] S48x128.size inb_S192x2048_S48x128_48_1920, k0_pay236 (kernelRun.sl.r c M5 f5)
    (View.readAt (Elt Ideal) M8.view (Rect.unit (s := S48x2048) ![0, 1920] S48x128.size inb_S48x2048_S48x128_0_1920).toLoadRect f8)⟩ ::
  ⟨Rect.unit ![0, 1920] S48x128.size inb_S192x2048_S48x128_0_1920, k0_pay235 (kernelRun.sl.r c M5 f5)
    (View.readAt (Elt Ideal) M8.view (Rect.unit (s := S48x2048) ![0, 1920] S48x128.size inb_S48x2048_S48x128_0_1920).toLoadRect f8)⟩ ::
  ⟨Rect.unit ![144, 1792] S48x128.size inb_S192x2048_S48x128_144_1792, k0_pay228 (kernelRun.sl.r_59 c M8 f8) (kernelRun.sl.r_60 c M5 f5)⟩ ::
  ⟨Rect.unit ![96, 1792] S48x128.size inb_S192x2048_S48x128_96_1792, k0_pay227 (kernelRun.sl.r_61 c M5 M8 f5 f8)⟩ ::
  kernelRun.sl.H19_58 c M5 M8 f5 f8

/-- The weights. -/
def C13 (M3 M4 : Memref sig .tc .vmem S192x1024 .fp8e4m3) (M13 : Memref sig .tc .vmem S384x1024 .bf16) (f3 : Bf (F := Ideal) c M3) (f4 : Bf (F := Ideal) c M4)
    (f13 : Bf (F := Ideal) c M13) : Bf (F := Ideal) c M13 :=
  if hc : kernelRun.sl.v2 i = 1#1 then M13.view.writes (Elt Ideal) f13 (kernelRun.sl.H13_2 c M3 M4 f3 f4) else f13

/-- The second half of the previous block, normalised. -/
def C15 (M15 : Memref sig .tc .vmem S512x1024 .bf16) (f15 : Bf (F := Ideal) c M15) : Bf (F := Ideal) c M15 :=
  if hc : kernelRun.sl.v2 i = 1#1 then
    M15.view.writes (Elt Ideal) f15 [⟨Rect.unit ![0, 0] S512x1024.size inb_S512x1024_S512x1024_0_0, k0_pay244 (F := Ideal)⟩]
  else f15

/-- The products of its first half. -/
def C16 (M16 : Memref sig .tc .vmem S384x512 .f32) (f16 : Bf (F := Ideal) c M16) : Bf (F := Ideal) c M16 :=
  if hc : kernelRun.sl.v2 i = 1#1 then
    M16.view.writes (Elt Ideal) f16 [⟨Rect.unit ![0, 0] S384x512.size inb_S384x512_S384x512_0_0, k0_pay246 (F := Ideal) (k0_pay245 (F := Ideal))⟩]
  else f16

/-- The cosine table, -/
def C18 (M5 : Memref sig .tc .vmem S1x192 .f32) (M7 : Memref sig .tc .vmem S48x2048 .f32) (M18 : Memref sig .tc .vmem S192x2048 .f32)
    (f5 : Bf (F := Ideal) c M5) (f7 : Bf (F := Ideal) c M7) (f18 : Bf (F := Ideal) c M18) : Bf (F := Ideal) c M18 :=
  if hc : kernelRun.sl.v2 i = 1#1 then M18.view.writes (Elt Ideal) f18 (L18 c M5 M7 f5 f7) else f18

/-- the sine table, -/
def C19 (M5 : Memref sig .tc .vmem S1x192 .f32) (M8 : Memref sig .tc .vmem S48x2048 .f32) (M19 : Memref sig .tc .vmem S192x2048 .f32)
    (f5 : Bf (F := Ideal) c M5) (f8 : Bf (F := Ideal) c M8) (f19 : Bf (F := Ideal) c M19) : Bf (F := Ideal) c M19 :=
  if hc : kernelRun.sl.v2 i = 1#1 then M19.view.writes (Elt Ideal) f19 (L19 c M5 M8 f5 f8) else f19

/-- and the value scales. -/
def C20 (M6 : Memref sig .tc .vmem S1x192 .f32) (M20 : Memref sig .tc .vmem S192x128 .f32) (f6 : Bf (F := Ideal) c M6) (f20 : Bf (F := Ideal) c M20) :
    Bf (F := Ideal) c M20 :=
  if hc : kernelRun.sl.v2 i = 1#1 then M20.view.writes (Elt Ideal) f20 (kernelRun.sl.H20_1 c M6 f6) else f20

/-- The first position of the block whose codes the point stores. -/
def posn : ℕ := ((i 0).val - 1) % 2 * 1024

theorem posn_le : posn i ≤ 1024 := by unfold posn; omega

/-- The block's first position, as the body computes it. -/
theorem posn_bits : Scalar.muli (Scalar.remsi (Scalar.maxsi (Scalar.subi (BitVec.ofNat 32 (i 0).val) 1#32) 0#32) 2#32) 1024#32
    = BitVec.ofNat 32 (posn i) := by
  unfold posn
  generalize i 0 = n
  revert n
  show ∀ n : Fin 65, _
  decide

theorem off1 (b : BitVec 32) (n : ℕ) (hn : b.toNat = n) (hb : n ≤ 512) : k0_off1 i b = ![0, posn i + n] := by
  have := posn_le i
  show ![0, (Scalar.indexCast (Scalar.addi _ b)).toNat] = _
  rw [posn_bits]
  congr 2
  show ((BitVec.ofNat 32 (posn i)) + b).toNat = _
  rw [BitVec.toNat_add, BitVec.toNat_ofNat, hn]
  omega

theorem off2 (b : BitVec 32) (n : ℕ) (hn : b.toNat = n) (hb : n ≤ 512) : k0_off2 i b = ![48, posn i + n] := by
  have h := off1 i b n hn hb
  exact congrArg (fun v : Fin 2 → ℕ => ![48, v 1]) h

theorem off3 (b : BitVec 32) (n : ℕ) (hn : b.toNat = n) (hb : n ≤ 512) : k0_off3 i b = ![96, posn i + n] := by
  have h := off1 i b n hn hb
  exact congrArg (fun v : Fin 2 → ℕ => ![96, v 1]) h

theorem off4 (b : BitVec 32) (n : ℕ) (hn : b.toNat = n) (hb : n ≤ 512) : k0_off4 i b = ![144, posn i + n] := by
  have h := off1 i b n hn hb
  exact congrArg (fun v : Fin 2 → ℕ => ![144, v 1]) h

theorem off5 (b : BitVec 32) (n : ℕ) (hn : b.toNat = n) (hb : n ≤ 512) : k0_off5 i b = ![0, posn i + 512 + n] := by
  have := posn_le i
  show ![0, (Scalar.indexCast (Scalar.addi (Scalar.addi _ 512#32) b)).toNat] = _
  rw [posn_bits]
  congr 2
  show ((BitVec.ofNat 32 (posn i)) + 512#32 + b).toNat = _
  rw [BitVec.toNat_add, BitVec.toNat_add, BitVec.toNat_ofNat, BitVec.toNat_ofNat, hn]
  omega

theorem off6 (b : BitVec 32) (n : ℕ) (hn : b.toNat = n) (hb : n ≤ 512) : k0_off6 i b = ![48, posn i + 512 + n] := by
  have h := off5 i b n hn hb
  exact congrArg (fun v : Fin 2 → ℕ => ![48, v 1]) h

theorem off7 (b : BitVec 32) (n : ℕ) (hn : b.toNat = n) (hb : n ≤ 512) : k0_off7 i b = ![96, posn i + 512 + n] := by
  have h := off5 i b n hn hb
  exact congrArg (fun v : Fin 2 → ℕ => ![96, v 1]) h

theorem off8 (b : BitVec 32) (n : ℕ) (hn : b.toNat = n) (hb : n ≤ 512) : k0_off8 i b = ![144, posn i + 512 + n] := by
  have h := off5 i b n hn hb
  exact congrArg (fun v : Fin 2 → ℕ => ![144, v 1]) h

end Cert.KernelIdeal.Hand
-- ==== Proof.PieceQuant.lean ====
/-
  The stores of the quantiser, read as arrays: the rotated rows, the maxima, the scales and the codes of one tile.
-/
module

public import proofs.«01_k».proof.Proof.RunIdeal
public import proofs.«01_k».proof.Proof.Spec
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The eight maxima of a block, divided by the largest code. -/
abbrev tv (a : FVec Ideal S8x128 .f32) : FVec Ideal S8x128 .f32 := mulf a (broadcast S8x128 (Scalar.ofBits .f32 0x3B124925#32))
/-- The first guess of the exponent, -/
abbrev e0v (a : FVec Ideal S8x128 .f32) : FVec Ideal S8x128 .f32 :=
  floor (divf (log (tv a)) (log (broadcast S8x128 (Scalar.ofBits .f32 0x40000000#32))))
/-- corrected downwards, -/
abbrev e1v (a : FVec Ideal S8x128 .f32) : FVec Ideal S8x128 .f32 :=
  select (cmpf .ogt (exp2 (e0v a)) (tv a)) (subf (e0v a) (broadcast S8x128 (Scalar.ofBits .f32 0x3F800000#32))) (e0v a)
/-- and upwards. -/
abbrev e2v (a : FVec Ideal S8x128 .f32) : FVec Ideal S8x128 .f32 :=
  select (cmpf .ole (exp2 (addf (e1v a) (broadcast S8x128 (Scalar.ofBits .f32 0x3F800000#32)))) (tv a))
    (addf (e1v a) (broadcast S8x128 (Scalar.ofBits .f32 0x3F800000#32))) (e1v a)
/-- Where a scale is needed. -/
abbrev nv (a : FVec Ideal S8x128 .f32) : IVec S8x128 1 :=
  andi (cmpf .ogt (tv a) (broadcast S8x128 (Scalar.ofBits .f32 0x00000000#32))) (cmpf .olt (tv a) (broadcast S8x128 (Scalar.ofBits .f32 0x7F800000#32)))
/-- The scales -/
abbrev scv (a : FVec Ideal S8x128 .f32) : FVec Ideal S8x128 .f32 :=
  select (nv a) (exp2 (addf (e2v a) (broadcast S8x128 (Scalar.ofBits .f32 0x3F800000#32)))) (broadcast S8x128 (Scalar.ofBits .f32 0x3F800000#32))
/-- and their reciprocals. -/
abbrev ivv (a : FVec Ideal S8x128 .f32) : FVec Ideal S8x128 .f32 :=
  select (nv a) (exp2 (subf (broadcast S8x128 (Scalar.ofBits .f32 0x00000000#32)) (addf (e2v a) (broadcast S8x128 (Scalar.ofBits .f32 0x3F800000#32)))))
    (broadcast S8x128 (Scalar.ofBits .f32 0x3F800000#32))

theorem scv_apply (a : FVec Ideal S8x128 .f32) (j : S8x128.Idx) : scv a j = Spec.scaleF (a j) := by
  classical
  have key : ∀ (p q : Prop) [Decidable p] [Decidable q] (x y : EReal),
      (Scalar.select (IntOp.andi (BitVec.ofBool (decide p)) (BitVec.ofBool (decide q))) x y : EReal) = if p ∧ q then x else y := by
    intro p q _ _ x y
    by_cases hp : p <;> by_cases hq : q <;> simp [hp, hq, IntOp.andi, Scalar.select]
  have sel : ∀ (p : Prop) [Decidable p] (x y : EReal), (Scalar.select (BitVec.ofBool (decide p)) x y : EReal) = if p then x else y := by
    intro p _ x y
    by_cases hp : p <;> simp [hp, Scalar.select]
  refine (key _ _ _ _).trans ?_
  unfold Spec.scaleF Spec.normal
  refine if_congr Iff.rfl (congrArg Ideal.exp2 (congrArg (· + Ideal.ofBits .f32 0x3F800000#32) ?_)) rfl
  refine (sel _ _ _).trans ?_
  have h1 : e1v a j = Spec.e1 (Spec.tOf (a j)) := (sel _ _ _).trans rfl
  show (if Ideal.exp2 (e1v a j + Ideal.ofBits .f32 0x3F800000#32) ≤ Spec.tOf (a j) then e1v a j + Ideal.ofBits .f32 0x3F800000#32 else e1v a j) = _
  rw [h1]; rfl

theorem ivv_apply (a : FVec Ideal S8x128 .f32) (j : S8x128.Idx) : ivv a j = Spec.invF (a j) := by
  classical
  have key : ∀ (p q : Prop) [Decidable p] [Decidable q] (x y : EReal),
      (Scalar.select (IntOp.andi (BitVec.ofBool (decide p)) (BitVec.ofBool (decide q))) x y : EReal) = if p ∧ q then x else y := by
    intro p q _ _ x y
    by_cases hp : p <;> by_cases hq : q <;> simp [hp, hq, IntOp.andi, Scalar.select]
  have sel : ∀ (p : Prop) [Decidable p] (x y : EReal), (Scalar.select (BitVec.ofBool (decide p)) x y : EReal) = if p then x else y := by
    intro p _ x y
    by_cases hp : p <;> simp [hp, Scalar.select]
  refine (key _ _ _ _).trans ?_
  unfold Spec.invF Spec.normal
  refine if_congr Iff.rfl (congrArg Ideal.exp2 (congrArg (fun e => Ideal.ofBits .f32 0x00000000#32 - (e + Ideal.ofBits .f32 0x3F800000#32)) ?_)) rfl
  refine (sel _ _ _).trans ?_
  have h1 : e1v a j = Spec.e1 (Spec.tOf (a j)) := (sel _ _ _).trans rfl
  show (if Ideal.exp2 (e1v a j + Ideal.ofBits .f32 0x3F800000#32) ≤ Spec.tOf (a j) then e1v a j + Ideal.ofBits .f32 0x3F800000#32 else e1v a j) = _
  rw [h1]; rfl

/-! ### Loads -/

/-- A load of a rectangle at a literal offset. -/
theorem rd2 {κ sp m0 m1 e} (v : View sig κ sp (⟨2, ![m0, m1]⟩ : Shape) e) (f : v.ty.Contents (Elt Ideal)) {a b n0 n1 : ℕ}
    {inb : ∀ i, (![a, b] : Fin 2 → ℕ) i + (![n0, n1] : Fin 2 → ℕ) i ≤ (⟨2, ![m0, m1]⟩ : Shape).size i}
    (r : Fin n0) (l : Fin n1) (h : a + r.val < m0) (h' : b + l.val < m1) :
    View.readAt (Elt Ideal) v (Rect.unit (s := ⟨2, ![m0, m1]⟩) ![a, b] ![n0, n1] inb).toLoadRect f (ix2 r l)
      = v.read (Elt Ideal) f (ix2 ⟨a + r.val, h⟩ ⟨b + l.val, h'⟩) := by
  show v.read (Elt Ideal) f _ = _
  congr 1
  funext i
  refine Fin.ext ((Spec.unit_idx_val _ _ inb _ i).trans ?_)
  fin_cases i <;> rfl

/-- A load of a rectangle at an offset that is known only by an equation. -/
theorem rd2d {κ sp m0 m1 e} (v : View sig κ sp (⟨2, ![m0, m1]⟩ : Shape) e) (f : v.ty.Contents (Elt Ideal)) {a b n0 n1 : ℕ} {off : Fin 2 → ℕ}
    {inb : ∀ i, off i + (![n0, n1] : Fin 2 → ℕ) i ≤ (⟨2, ![m0, m1]⟩ : Shape).size i} (ho : off = ![a, b])
    (r : Fin n0) (l : Fin n1) (h : a + r.val < m0) (h' : b + l.val < m1) :
    View.readAt (Elt Ideal) v (Rect.unit (s := ⟨2, ![m0, m1]⟩) off ![n0, n1] inb).toLoadRect f (ix2 r l)
      = v.read (Elt Ideal) f (ix2 ⟨a + r.val, h⟩ ⟨b + l.val, h'⟩) := by
  subst ho
  exact rd2 v f r l h h'

/-- A load that only the oldest of the writes meets reads that write. -/
theorem readCov_last {κ sp s e} (v : View sig κ sp s e) (r : Rect s) (w : r.shape.Idx → Elt Ideal e) :
    ∀ (L : List (View.Piece (Elt Ideal) s e)) (B : LoadRect s), L.getLast? = some ⟨r, w⟩ →
      LoadRect.disjAll (L.dropLast.map Sigma.fst) B = true → (hB : ∀ j, ∃ x, r.emb x = B.idx j) → ∀ j x, r.emb x = B.idx j →
      v.readCov L B j = w x := by
  intro L B hl hd hB j x hx
  have : ∀ (L : List (View.Piece (Elt Ideal) s e)) (f : v.ty.Contents (Elt Ideal)), L.getLast? = some ⟨r, w⟩ →
      LoadRect.disjAll (L.dropLast.map Sigma.fst) B = true → v.read (Elt Ideal) (v.writes (Elt Ideal) f L) (B.idx j) = w x := by
    intro L
    induction L with
    | nil => intro f h; cases h
    | cons p L ih =>
      intro f h hd
      cases L with
      | nil =>
        simp only [List.getLast?_singleton, Option.some.injEq] at h
        subst h
        rw [← hx]
        exact View.read_writes_cons_emb v f r w [] x
      | cons q L =>
        rw [List.getLast?_cons_cons] at h
        simp only [List.dropLast_cons₂, List.map_cons, LoadRect.disjAll, List.all_cons, Bool.and_eq_true] at hd
        rw [View.writes_cons, View.read_slice_write_of_not_mem p.1 _ _ _ (by rw [Rect.map_emb_univ]; exact LoadRect.idx_not_mem_of_disj hd.1 j)]
        exact ih f h hd.2
  exact this L _ hl hd

/-- The same at literal offsets, the oldest write being the whole array. -/
theorem rc2 {κ sp m0 m1 e} (v : View sig κ sp (⟨2, ![m0, m1]⟩ : Shape) e) (A : (⟨2, ![m0, m1]⟩ : Shape).Idx → Elt Ideal e)
    {L : List (View.Piece (Elt Ideal) (⟨2, ![m0, m1]⟩ : Shape) e)} {a b n0 n1 : ℕ}
    {inb : ∀ i, (![a, b] : Fin 2 → ℕ) i + (![n0, n1] : Fin 2 → ℕ) i ≤ (⟨2, ![m0, m1]⟩ : Shape).size i}
    {i0 : ∀ i, (![0, 0] : Fin 2 → ℕ) i + (![m0, m1] : Fin 2 → ℕ) i ≤ (⟨2, ![m0, m1]⟩ : Shape).size i}
    (hl : L.getLast? = some ⟨Rect.unit (s := ⟨2, ![m0, m1]⟩) ![0, 0] ![m0, m1] i0, A⟩)
    (hd : LoadRect.disjAll (L.dropLast.map Sigma.fst) (Rect.unit (s := ⟨2, ![m0, m1]⟩) ![a, b] ![n0, n1] inb).toLoadRect = true)
    (r : Fin n0) (l : Fin n1) (h : a + r.val < m0) (h' : b + l.val < m1) :
    v.readCov L (Rect.unit (s := ⟨2, ![m0, m1]⟩) ![a, b] ![n0, n1] inb).toLoadRect (ix2 r l) = A (ix2 ⟨a + r.val, h⟩ ⟨b + l.val, h'⟩) := by
  have e : ∀ j, (Rect.unit (s := ⟨2, ![m0, m1]⟩) ![0, 0] ![m0, m1] i0).emb j = j := by
    intro j
    funext i
    refine Fin.ext ((Rect.emb_apply _ _ i).trans ?_)
    fin_cases i <;> simp [Rect.unit]
  refine readCov_last v _ A L _ hl hd (fun j => ⟨_, e _⟩) _ _ ((e _).trans ?_)
  funext i
  refine Fin.ext (Eq.symm ((Spec.unit_idx_val _ _ inb _ i).trans ?_))
  fin_cases i <;> rfl

/-- A load covered by the newest `n` writes, all of which agree with `G`, reads `G`. -/
theorem readCov_take {κ sp s e} (v : View sig κ sp s e) (G : s.Idx → Elt Ideal e) (n : ℕ) {L : List (View.Piece (Elt Ideal) s e)}
    (hG : ∀ p ∈ L.take n, ∀ x : p.1.shape.Idx, p.2 x = G (p.1.emb x)) (hc : ∀ y, ∃ p ∈ L.take n, y ∈ p.1.set) (B : LoadRect s) (j) :
    v.readCov L B j = G (B.idx j) := by
  show v.read (Elt Ideal) (v.writes (Elt Ideal) v.junk L) (B.idx j) = _
  rw [← List.take_append_drop n L, View.writes_append]
  exact View.read_writes_apply_of_pieces v _ G _ hG _ (hc _)

/-- A function of row and column, as an array. -/
abbrev arr2 {α : Type} {m0 m1 : ℕ} (O : Fin m0 → Fin m1 → α) (y : (⟨2, ![m0, m1]⟩ : Shape).Idx) : α := O (y 0) (y 1)

/-- A stored rectangle given by rows and columns. -/
theorem piece2 {α : Type} {m0 m1 n0 n1 a b : ℕ} (O : Fin m0 → Fin m1 → α) {v : (⟨2, ![n0, n1]⟩ : Shape).Idx → α}
    (inb : ∀ i, (![a, b] : Fin 2 → ℕ) i + (![n0, n1] : Fin 2 → ℕ) i ≤ (⟨2, ![m0, m1]⟩ : Shape).size i)
    (hv : ∀ (r : Fin n0) (l : Fin n1) (h : a + r.val < m0) (h' : b + l.val < m1), v (ix2 r l) = O ⟨a + r.val, h⟩ ⟨b + l.val, h'⟩)
    (x : (⟨2, ![n0, n1]⟩ : Shape).Idx) :
    v x = arr2 O ((Rect.unit (s := ⟨2, ![m0, m1]⟩) ![a, b] ![n0, n1] inb).emb x) := by
  have e0 : ((Rect.unit (s := ⟨2, ![m0, m1]⟩) ![a, b] ![n0, n1] inb).emb x 0).val = a + (x 0).val :=
    (Rect.emb_apply _ _ _).trans (by simp [Rect.unit])
  have e1 : ((Rect.unit (s := ⟨2, ![m0, m1]⟩) ![a, b] ![n0, n1] inb).emb x 1).val = b + (x 1).val :=
    (Rect.emb_apply _ _ _).trans (by simp [Rect.unit])
  have hx : x = ix2 (n0 := n0) (n1 := n1) (x 0) (x 1) := by funext i; fin_cases i <;> rfl
  refine (congrArg v hx).trans ((hv (x 0) (x 1) (e0 ▸ Fin.isLt _) (e1 ▸ Fin.isLt _)).trans ?_)
  exact congrArg₂ O (Fin.ext e0.symm) (Fin.ext e1.symm)

/-- The same for a rectangle at literal offsets. -/
theorem rct {κ sp m0 m1 e} (v : View sig κ sp (⟨2, ![m0, m1]⟩ : Shape) e) (O : Fin m0 → Fin m1 → Elt Ideal e) (n : ℕ)
    {L : List (View.Piece (Elt Ideal) (⟨2, ![m0, m1]⟩ : Shape) e)} {a b n0 n1 : ℕ}
    {inb : ∀ i, (![a, b] : Fin 2 → ℕ) i + (![n0, n1] : Fin 2 → ℕ) i ≤ (⟨2, ![m0, m1]⟩ : Shape).size i}
    (hG : ∀ p ∈ L.take n, ∀ x : p.1.shape.Idx, p.2 x = arr2 O (p.1.emb x)) (hc : ∀ y, ∃ p ∈ L.take n, y ∈ p.1.set)
    (r : Fin n0) (l : Fin n1) (h : a + r.val < m0) (h' : b + l.val < m1) :
    v.readCov L (Rect.unit (s := ⟨2, ![m0, m1]⟩) ![a, b] ![n0, n1] inb).toLoadRect (ix2 r l) = O ⟨a + r.val, h⟩ ⟨b + l.val, h'⟩ := by
  rw [readCov_take v (arr2 O) n hG hc]
  exact congrArg₂ O (Fin.ext (Spec.unit_idx_val _ _ _ _ 0)) (Fin.ext (Spec.unit_idx_val _ _ _ _ 1))

/-- And for a load of every eighth row. -/
theorem rcm {κ sp e} (v : View sig κ sp S128x128 e) (O : Fin 128 → Fin 128 → Elt Ideal e) (n : ℕ)
    {L : List (View.Piece (Elt Ideal) S128x128 e)} {a : ℕ} {inb}
    (hG : ∀ p ∈ L.take n, ∀ x : p.1.shape.Idx, p.2 x = arr2 O (p.1.emb x)) (hc : ∀ y, ∃ p ∈ L.take n, y ∈ p.1.set)
    (j : Fin 8) (l : Fin 128) (h : a + 8 * j.val < 128) :
    v.readCov L ({ off := ![a, 0], size := S8x128.size, stride := ![8, 1], inb := inb } : LoadRect S128x128) (ix2 j l) = O ⟨a + 8 * j.val, h⟩ l := by
  rw [readCov_take v (arr2 O) n hG hc]
  refine congrArg₂ O (Fin.ext rfl) (Fin.ext ?_)
  show 0 + 1 * l.val = l.val
  omega

/-- How the 24 stores of a tile's rotated rows cover it: four columns of blocks, six blocks each. -/
def tileCov : LoadRect.Cov :=
  let col (l : ℕ) : LoadRect.Cov := .split 0 48 (.leaf (23 - 2 * l)) (.split 0 48 (.leaf (22 - 2 * l)) (.split 0 48 (.leaf (15 - 2 * l))
    (.split 0 48 (.leaf (14 - 2 * l)) (.split 0 96 (.leaf (7 - l)) (.leaf (3 - l))))))
  .split 1 128 (col 0) (.split 1 128 (col 1) (.split 1 128 (col 2) (col 3)))

theorem cover_of_tileCov {e : EltTy} (L : List (View.Piece (Elt Ideal) S384x512 e))
    (h : LoadRect.covChk (L.map Sigma.fst) (LoadRect.whole S384x512) tileCov = true) (y : S384x512.Idx) : ∃ p ∈ L, y ∈ p.1.set := by
  have hy := LoadRect.cover_of_covChk L (LoadRect.whole _) tileCov h y
  have e : (LoadRect.whole S384x512).idx y = y := by
    funext a
    refine Fin.ext ?_
    show 0 + 1 * (y a).val = _
    omega
  rwa [e] at hy

/-! ### The rotated rows of one tile -/

variable (A : S384x512.Idx → EReal) (TA TB : S192x2048.Idx → EReal) (SV : S192x128.Idx → EReal)

/-- The rotated rows of a tile, from the products `A`, the tables at position `pos` and the value scales. -/
def oG (pos : ℕ) (hp : pos ≤ 1536) (r : Fin 384) (t : Fin 512) : EReal :=
  Spec.rot (fun r => A (ix2 r t)) (fun r => TA (ix2 (n0 := 192) (n1 := 2048) r ⟨pos + t.val, by omega⟩))
    (fun r => TB (ix2 (n0 := 192) (n1 := 2048) r ⟨pos + t.val, by omega⟩))
    (fun r => SV (ix2 (n0 := 192) (n1 := 128) r ⟨t.val % 128, by omega⟩)) r

/-- Half of a head of rotated keys: the rows `b …` times one table plus the partner rows times the other. -/
theorem oK0 (pos : ℕ) (hp : pos ≤ 1536) {b l0 : ℕ} {p1 p2 ta tb : FVec Ideal S48x128 .f32}
    (hb : b = 0 ∨ b = 48 ∨ b = 96 ∨ b = 144) (hl : l0 + 128 ≤ 512)
    (h1 : ∀ (r : Fin 48) (l : Fin 128) (h : b + r.val < 384) (h' : l0 + l.val < 512), p1 (ix2 r l) = A (ix2 ⟨b + r.val, h⟩ ⟨l0 + l.val, h'⟩))
    (h2 : ∀ (r : Fin 48) (l : Fin 128) (h : b + 48 - b % 96 / 48 * 96 + r.val < 384) (h' : l0 + l.val < 512), p2 (ix2 r l) = A (ix2 ⟨b + 48 - b % 96 / 48 * 96 + r.val, h⟩ ⟨l0 + l.val, h'⟩))
    (hta : ∀ (r : Fin 48) (l : Fin 128) (h : b + r.val < 192) (h' : pos + l0 + l.val < 2048), ta (ix2 r l) = TA (ix2 ⟨b + r.val, h⟩ ⟨pos + l0 + l.val, h'⟩))
    (htb : ∀ (r : Fin 48) (l : Fin 128) (h : b + r.val < 192) (h' : pos + l0 + l.val < 2048), tb (ix2 r l) = TB (ix2 ⟨b + r.val, h⟩ ⟨pos + l0 + l.val, h'⟩))
    (r : Fin 48) (l : Fin 128) (h : b + r.val < 384) (h' : l0 + l.val < 512) :
    ((addf (mulf p1 ta) (mulf p2 tb)) : FVec Ideal S48x128 .f32) (ix2 r l)
      = oG A TA TB SV pos hp ⟨b + r.val, h⟩ ⟨l0 + l.val, h'⟩ := by
  have hr := r.isLt
  have hll := l.isLt
  show p1 (ix2 r l) * ta (ix2 r l) + p2 (ix2 r l) * tb (ix2 r l) = _
  rw [h1 r l (by omega) (by omega), h2 r l (by omega) (by omega), hta r l (by omega) (by omega), htb r l (by omega) (by omega)]
  unfold oG Spec.rot
  rw [dif_pos (show (b + r.val) < 192 by omega)]
  simp only [Nat.add_assoc]
  rcases hb with rfl | rfl | rfl | rfl
  · rw [dif_pos (by omega)]
    congr 3; congr 1; exact Fin.ext (by dsimp; omega)
  · rw [dif_neg (by omega)]
    congr 3; congr 1; exact Fin.ext (by dsimp; omega)
  · rw [dif_pos (by omega)]
    congr 3; congr 1; exact Fin.ext (by dsimp; omega)
  · rw [dif_neg (by omega)]
    congr 3; congr 1; exact Fin.ext (by dsimp; omega)

/-- The same, stored. -/
theorem oK (pos : ℕ) (hp : pos ≤ 1536) {b l0 : ℕ} {p1 p2 ta tb : FVec Ideal S48x128 .f32}
    (hb : b = 0 ∨ b = 48 ∨ b = 96 ∨ b = 144) (hl : l0 + 128 ≤ 512)
    (h1 : ∀ (r : Fin 48) (l : Fin 128) (h : b + r.val < 384) (h' : l0 + l.val < 512), p1 (ix2 r l) = A (ix2 ⟨b + r.val, h⟩ ⟨l0 + l.val, h'⟩))
    (h2 : ∀ (r : Fin 48) (l : Fin 128) (h : b + 48 - b % 96 / 48 * 96 + r.val < 384) (h' : l0 + l.val < 512), p2 (ix2 r l) = A (ix2 ⟨b + 48 - b % 96 / 48 * 96 + r.val, h⟩ ⟨l0 + l.val, h'⟩))
    (hta : ∀ (r : Fin 48) (l : Fin 128) (h : b + r.val < 192) (h' : pos + l0 + l.val < 2048), ta (ix2 r l) = TA (ix2 ⟨b + r.val, h⟩ ⟨pos + l0 + l.val, h'⟩))
    (htb : ∀ (r : Fin 48) (l : Fin 128) (h : b + r.val < 192) (h' : pos + l0 + l.val < 2048), tb (ix2 r l) = TB (ix2 ⟨b + r.val, h⟩ ⟨pos + l0 + l.val, h'⟩))
    (r : Fin 48) (l : Fin 128) (h : b + r.val < 384) (h' : l0 + l.val < 512) :
    (shapeCast S48x128 (addf (mulf p1 ta) (mulf p2 tb)) shapeCasts_S48x128_S48x128 : FVec Ideal S48x128 .f32) (ix2 r l)
      = oG A TA TB SV pos hp ⟨b + r.val, h⟩ ⟨l0 + l.val, h'⟩ := by
  rw [shapeCast_self]
  exact oK0 A TA TB SV pos hp hb hl h1 h2 hta htb r l h h'

/-- A head of scaled values. -/
theorem oV0 (pos : ℕ) (hp : pos ≤ 1536) {b l0 : ℕ} {p sv : FVec Ideal S96x128 .f32} (hb : 192 ≤ b) (hl : l0 % 128 = 0)
    (h1 : ∀ (r : Fin 96) (l : Fin 128) (h : b + r.val < 384) (h' : l0 + l.val < 512), p (ix2 r l) = A (ix2 ⟨b + r.val, h⟩ ⟨l0 + l.val, h'⟩))
    (h2 : ∀ (r : Fin 96) (l : Fin 128) (h : b - 192 + r.val < 192) (h' : 0 + l.val < 128), sv (ix2 r l) = SV (ix2 ⟨b - 192 + r.val, h⟩ ⟨0 + l.val, h'⟩))
    (r : Fin 96) (l : Fin 128) (h : b + r.val < 384) (h' : l0 + l.val < 512) :
    ((mulf p sv) : FVec Ideal S96x128 .f32) (ix2 r l)
      = oG A TA TB SV pos hp ⟨b + r.val, h⟩ ⟨l0 + l.val, h'⟩ := by
  have hr := r.isLt
  have hll := l.isLt
  show p (ix2 r l) * sv (ix2 r l) = _
  rw [h1 r l (by omega) (by omega), h2 r l (by omega) (by omega)]
  unfold oG Spec.rot
  rw [dif_neg (show ¬ (b + r.val) < 192 by omega)]
  congr 2
  congr 1
  · exact Fin.ext (by dsimp; omega)
  · exact Fin.ext (by dsimp; omega)

/-- The same, stored. -/
theorem oV (pos : ℕ) (hp : pos ≤ 1536) {b l0 : ℕ} {p sv : FVec Ideal S96x128 .f32} (hb : 192 ≤ b) (hl : l0 % 128 = 0)
    (h1 : ∀ (r : Fin 96) (l : Fin 128) (h : b + r.val < 384) (h' : l0 + l.val < 512), p (ix2 r l) = A (ix2 ⟨b + r.val, h⟩ ⟨l0 + l.val, h'⟩))
    (h2 : ∀ (r : Fin 96) (l : Fin 128) (h : b - 192 + r.val < 192) (h' : 0 + l.val < 128), sv (ix2 r l) = SV (ix2 ⟨b - 192 + r.val, h⟩ ⟨0 + l.val, h'⟩))
    (r : Fin 96) (l : Fin 128) (h : b + r.val < 384) (h' : l0 + l.val < 512) :
    (shapeCast S96x128 (mulf p sv) shapeCasts_S96x128_S96x128 : FVec Ideal S96x128 .f32) (ix2 r l)
      = oG A TA TB SV pos hp ⟨b + r.val, h⟩ ⟨l0 + l.val, h'⟩ := by
  rw [shapeCast_self]
  exact oV0 A TA TB SV pos hp hb hl h1 h2 r l h h'

/-! ### The maxima -/

theorem ess8 {n : ℕ} {c : ℕ} {o : FVec Ideal (⟨2, ![n, 128]⟩ : Shape) .f32} {hs : (⟨2, ![n, 128]⟩ : Shape).Slices ![c, 0] S8x128}
    (r : Fin 8) (l : Fin 128) (h : c + r.val < n) :
    (absf (extractStridedSlice S8x128 ![c, 0] o hs) : FVec Ideal S8x128 .f32) (ix2 r l) = max (o (ix2 ⟨c + r.val, h⟩ l)) (-o (ix2 ⟨c + r.val, h⟩ l)) := by
  have : (extractStridedSlice S8x128 ![c, 0] o hs : FVec Ideal S8x128 .f32) (ix2 r l) = o (ix2 ⟨c + r.val, h⟩ l) := by
    show o _ = o _
    congr 1
    funext i
    refine Fin.ext ?_
    fin_cases i
    · rfl
    · exact Nat.zero_add _
  show max (extractStridedSlice S8x128 ![c, 0] o hs (ix2 r l)) (-extractStridedSlice S8x128 ![c, 0] o hs (ix2 r l)) = _
  rw [this]

/-- The maxima of a tile: row `8·(4·q + l) + s` is head `q`, positions `128·l …`, rows `s` modulo 8. -/
def mO (O : Fin 384 → Fin 512 → EReal) (i : Fin 128) (l : Fin 128) : EReal :=
  Spec.max12 (fun r => O r ⟨i.val / 8 % 4 * 128 + l.val, by omega⟩) ⟨i.val / 32, by omega⟩ ⟨i.val % 8, by omega⟩

/-- The maxima of a head of keys, from its two rotated halves. -/
theorem mK (O : Fin 384 → Fin 512 → EReal) {i8 : ℕ} {o1 o2 : FVec Ideal S48x128 .f32} (h8 : i8 % 8 = 0)
    (h1 : ∀ (r : Fin 48) (l : Fin 128) (h : i8 / 32 * 96 + r.val < 384) (h' : i8 / 8 % 4 * 128 + l.val < 512), o1 (ix2 r l) = O ⟨i8 / 32 * 96 + r.val, h⟩ ⟨i8 / 8 % 4 * 128 + l.val, h'⟩)
    (h2 : ∀ (r : Fin 48) (l : Fin 128) (h : i8 / 32 * 96 + 48 + r.val < 384) (h' : i8 / 8 % 4 * 128 + l.val < 512), o2 (ix2 r l) = O ⟨i8 / 32 * 96 + 48 + r.val, h⟩ ⟨i8 / 8 % 4 * 128 + l.val, h'⟩)
    (r : Fin 8) (l : Fin 128) (h : i8 + r.val < 128) (h' : 0 + l.val < 128) :
    (shapeCast S8x128 (maximumf (maximumf (maximumf (maximumf (maximumf (maximumf (maximumf (maximumf (maximumf (maximumf (maximumf
      (absf (extractStridedSlice S8x128 ![0, 0] o1 slices_S48x128_o0_0_S8x128)) (absf (extractStridedSlice S8x128 ![8, 0] o1 slices_S48x128_o8_0_S8x128)))
      (absf (extractStridedSlice S8x128 ![16, 0] o1 slices_S48x128_o16_0_S8x128))) (absf (extractStridedSlice S8x128 ![24, 0] o1 slices_S48x128_o24_0_S8x128)))
      (absf (extractStridedSlice S8x128 ![32, 0] o1 slices_S48x128_o32_0_S8x128))) (absf (extractStridedSlice S8x128 ![40, 0] o1 slices_S48x128_o40_0_S8x128)))
      (absf (extractStridedSlice S8x128 ![0, 0] o2 slices_S48x128_o0_0_S8x128))) (absf (extractStridedSlice S8x128 ![8, 0] o2 slices_S48x128_o8_0_S8x128)))
      (absf (extractStridedSlice S8x128 ![16, 0] o2 slices_S48x128_o16_0_S8x128))) (absf (extractStridedSlice S8x128 ![24, 0] o2 slices_S48x128_o24_0_S8x128)))
      (absf (extractStridedSlice S8x128 ![32, 0] o2 slices_S48x128_o32_0_S8x128))) (absf (extractStridedSlice S8x128 ![40, 0] o2 slices_S48x128_o40_0_S8x128)))
      shapeCasts_S8x128_S8x128 : FVec Ideal S8x128 .f32) (ix2 r l) = mO O ⟨i8 + r.val, h⟩ ⟨0 + l.val, h'⟩ := by
  have hr := r.isLt
  have hll := l.isLt
  rw [shapeCast_self]
  have k1 : ∀ (c : ℕ) (hc : c + 8 ≤ 48) (w w'), (o1 (ix2 ⟨c + r.val, by omega⟩ l) : EReal) = O ⟨(i8 + r.val) / 32 * 96 + (c + (i8 + r.val) % 8), w⟩ ⟨(i8 + r.val) / 8 % 4 * 128 + (0 + l.val), w'⟩ := fun c hc w w' => by
    rw [h1 _ _ (by dsimp; omega) (by omega)]
    congr 1 <;> exact Fin.ext (by dsimp; omega)
  have k2 : ∀ (c : ℕ) (hc : c + 8 ≤ 48) (w w'), (o2 (ix2 ⟨c + r.val, by omega⟩ l) : EReal) = O ⟨(i8 + r.val) / 32 * 96 + (48 + c + (i8 + r.val) % 8), w⟩ ⟨(i8 + r.val) / 8 % 4 * 128 + (0 + l.val), w'⟩ := fun c hc w w' => by
    rw [h2 _ _ (by dsimp; omega) (by omega)]
    congr 1 <;> exact Fin.ext (by dsimp; omega)
  have e1 : ∀ (c : ℕ) (hc : c + 8 ≤ 48) hs w w', (absf (extractStridedSlice S8x128 ![c, 0] o1 hs) : FVec Ideal S8x128 .f32) (ix2 r l)
      = max (O ⟨(i8 + r.val) / 32 * 96 + (c + (i8 + r.val) % 8), w⟩ ⟨(i8 + r.val) / 8 % 4 * 128 + (0 + l.val), w'⟩) (-O ⟨(i8 + r.val) / 32 * 96 + (c + (i8 + r.val) % 8), w⟩ ⟨(i8 + r.val) / 8 % 4 * 128 + (0 + l.val), w'⟩) := fun c hc hs w w' => by
    rw [ess8 r l (by omega), k1 c hc w w']
  have e2 : ∀ (c : ℕ) (hc : c + 8 ≤ 48) hs w w', (absf (extractStridedSlice S8x128 ![c, 0] o2 hs) : FVec Ideal S8x128 .f32) (ix2 r l)
      = max (O ⟨(i8 + r.val) / 32 * 96 + (48 + c + (i8 + r.val) % 8), w⟩ ⟨(i8 + r.val) / 8 % 4 * 128 + (0 + l.val), w'⟩) (-O ⟨(i8 + r.val) / 32 * 96 + (48 + c + (i8 + r.val) % 8), w⟩ ⟨(i8 + r.val) / 8 % 4 * 128 + (0 + l.val), w'⟩) := fun c hc hs w w' => by
    rw [ess8 r l (by omega), k2 c hc w w']
  unfold mO Spec.max12
  have b : ∀ c, c ≤ 88 → (i8 + r.val) / 32 * 96 + (c + (i8 + r.val) % 8) < 384 := fun c hc => by omega
  have b' : (i8 + r.val) / 8 % 4 * 128 + (0 + l.val) < 512 := by omega
  exact congrArg₂ max (congrArg₂ max (congrArg₂ max (congrArg₂ max (congrArg₂ max (congrArg₂ max (congrArg₂ max (congrArg₂ max (congrArg₂ max (congrArg₂ max (congrArg₂ max
    (e1 0 (by omega) _ (b _ (by omega)) b') (e1 8 (by omega) _ (b _ (by omega)) b')) (e1 16 (by omega) _ (b _ (by omega)) b')) (e1 24 (by omega) _ (b _ (by omega)) b'))
    (e1 32 (by omega) _ (b _ (by omega)) b')) (e1 40 (by omega) _ (b _ (by omega)) b')) (e2 0 (by omega) _ (b _ (by omega)) b')) (e2 8 (by omega) _ (b _ (by omega)) b'))
    (e2 16 (by omega) _ (b _ (by omega)) b')) (e2 24 (by omega) _ (b _ (by omega)) b')) (e2 32 (by omega) _ (b _ (by omega)) b')) (e2 40 (by omega) _ (b _ (by omega)) b')

/-- The maxima of a head of values. -/
theorem mV (O : Fin 384 → Fin 512 → EReal) {i8 : ℕ} {o : FVec Ideal S96x128 .f32} (h8 : i8 % 8 = 0)
    (h1 : ∀ (r : Fin 96) (l : Fin 128) (h : i8 / 32 * 96 + r.val < 384) (h' : i8 / 8 % 4 * 128 + l.val < 512), o (ix2 r l) = O ⟨i8 / 32 * 96 + r.val, h⟩ ⟨i8 / 8 % 4 * 128 + l.val, h'⟩)
    (r : Fin 8) (l : Fin 128) (h : i8 + r.val < 128) (h' : 0 + l.val < 128) :
    (shapeCast S8x128 (maximumf (maximumf (maximumf (maximumf (maximumf (maximumf (maximumf (maximumf (maximumf (maximumf (maximumf
      (absf (extractStridedSlice S8x128 ![0, 0] o slices_S96x128_o0_0_S8x128)) (absf (extractStridedSlice S8x128 ![8, 0] o slices_S96x128_o8_0_S8x128)))
      (absf (extractStridedSlice S8x128 ![16, 0] o slices_S96x128_o16_0_S8x128))) (absf (extractStridedSlice S8x128 ![24, 0] o slices_S96x128_o24_0_S8x128)))
      (absf (extractStridedSlice S8x128 ![32, 0] o slices_S96x128_o32_0_S8x128))) (absf (extractStridedSlice S8x128 ![40, 0] o slices_S96x128_o40_0_S8x128)))
      (absf (extractStridedSlice S8x128 ![48, 0] o slices_S96x128_o48_0_S8x128))) (absf (extractStridedSlice S8x128 ![56, 0] o slices_S96x128_o56_0_S8x128)))
      (absf (extractStridedSlice S8x128 ![64, 0] o slices_S96x128_o64_0_S8x128))) (absf (extractStridedSlice S8x128 ![72, 0] o slices_S96x128_o72_0_S8x128)))
      (absf (extractStridedSlice S8x128 ![80, 0] o slices_S96x128_o80_0_S8x128))) (absf (extractStridedSlice S8x128 ![88, 0] o slices_S96x128_o88_0_S8x128)))
      shapeCasts_S8x128_S8x128 : FVec Ideal S8x128 .f32) (ix2 r l) = mO O ⟨i8 + r.val, h⟩ ⟨0 + l.val, h'⟩ := by
  have hr := r.isLt
  have hll := l.isLt
  rw [shapeCast_self]
  have k1 : ∀ (c : ℕ) (hc : c + 8 ≤ 96) (w w'), (o (ix2 ⟨c + r.val, by omega⟩ l) : EReal) = O ⟨(i8 + r.val) / 32 * 96 + (c + (i8 + r.val) % 8), w⟩ ⟨(i8 + r.val) / 8 % 4 * 128 + (0 + l.val), w'⟩ := fun c hc w w' => by
    rw [h1 _ _ (by dsimp; omega) (by omega)]
    congr 1 <;> exact Fin.ext (by dsimp; omega)
  have e1 : ∀ (c : ℕ) (hc : c + 8 ≤ 96) hs w w', (absf (extractStridedSlice S8x128 ![c, 0] o hs) : FVec Ideal S8x128 .f32) (ix2 r l)
      = max (O ⟨(i8 + r.val) / 32 * 96 + (c + (i8 + r.val) % 8), w⟩ ⟨(i8 + r.val) / 8 % 4 * 128 + (0 + l.val), w'⟩) (-O ⟨(i8 + r.val) / 32 * 96 + (c + (i8 + r.val) % 8), w⟩ ⟨(i8 + r.val) / 8 % 4 * 128 + (0 + l.val), w'⟩) := fun c hc hs w w' => by
    rw [ess8 r l (by omega), k1 c hc w w']
  unfold mO Spec.max12
  have b : ∀ c, c ≤ 88 → (i8 + r.val) / 32 * 96 + (c + (i8 + r.val) % 8) < 384 := fun c hc => by omega
  have b' : (i8 + r.val) / 8 % 4 * 128 + (0 + l.val) < 512 := by omega
  exact congrArg₂ max (congrArg₂ max (congrArg₂ max (congrArg₂ max (congrArg₂ max (congrArg₂ max (congrArg₂ max (congrArg₂ max (congrArg₂ max (congrArg₂ max (congrArg₂ max
    (e1 0 (by omega) _ (b _ (by omega)) b') (e1 8 (by omega) _ (b _ (by omega)) b')) (e1 16 (by omega) _ (b _ (by omega)) b')) (e1 24 (by omega) _ (b _ (by omega)) b'))
    (e1 32 (by omega) _ (b _ (by omega)) b')) (e1 40 (by omega) _ (b _ (by omega)) b')) (e1 48 (by omega) _ (b _ (by omega)) b')) (e1 56 (by omega) _ (b _ (by omega)) b'))
    (e1 64 (by omega) _ (b _ (by omega)) b')) (e1 72 (by omega) _ (b _ (by omega)) b')) (e1 80 (by omega) _ (b _ (by omega)) b')) (e1 88 (by omega) _ (b _ (by omega)) b')

/-- The largest absolute values of two heads, from the eight strided loads of the maxima. -/
theorem aK (O : Fin 384 → Fin 512 → EReal) (half : Fin 2) {a0 a1 a2 a3 a4 a5 a6 a7 : FVec Ideal S8x128 .f32}
    (hh : ∀ (j : Fin 8) (l : Fin 128) (s : Fin 8), (![a0, a1, a2, a3, a4, a5, a6, a7] s) (ix2 j l) = mO O ⟨64 * half.val + s.val + 8 * j.val, by omega⟩ l)
    (j : Fin 8) (l : Fin 128) :
    (maximumf (maximumf (maximumf (maximumf (maximumf (maximumf (maximumf a0 a1) a2) a3) a4) a5) a6) a7 : FVec Ideal S8x128 .f32) (ix2 j l)
      = Spec.amax (fun r => O r ⟨j.val % 4 * 128 + l.val, by omega⟩) ⟨half.val * 2 + j.val / 4, by omega⟩ := by
  have e : ∀ s : Fin 8, mO O ⟨64 * half.val + s.val + 8 * j.val, by omega⟩ l
      = Spec.max12 (fun r => O r ⟨j.val % 4 * 128 + l.val, by omega⟩) ⟨half.val * 2 + j.val / 4, by omega⟩ s := fun s => by
    unfold mO
    congr 1
    · funext r; congr 1; exact Fin.ext (by dsimp; omega)
    · exact Fin.ext (by dsimp; omega)
    · exact Fin.ext (by dsimp; omega)
  have f := fun s => (hh j l s).trans (e s)
  exact congrArg₂ max (congrArg₂ max (congrArg₂ max (congrArg₂ max (congrArg₂ max (congrArg₂ max (congrArg₂ max (f 0) (f 1)) (f 2)) (f 3)) (f 4)) (f 5)) (f 6)) (f 7)

/-! ### Scales, reciprocals and codes -/

/-- The scales of a block of 1024 positions, two heads. -/
def sG (OO : Fin 384 → Fin 1024 → EReal) (half : Fin 2) (y : S1x2x1024.Idx) : EReal :=
  Spec.scaleF (Spec.amax (fun r => OO r (y 2)) ⟨half.val * 2 + (y 1).val, by have := half.isLt; have := (y 1).isLt; dsimp at this; omega⟩)

/-- The reciprocals of the scales of a tile, four heads. -/
def iO (O : Fin 384 → Fin 512 → EReal) (i : Fin 16) (l : Fin 128) : EReal :=
  Spec.invF (Spec.amax (fun r => O r ⟨i.val % 4 * 128 + l.val, by omega⟩) ⟨i.val / 4, by omega⟩)

/-- The codes of a block of 1024 positions, two heads. -/
def cG (OO : Fin 384 → Fin 1024 → EReal) (half : Fin 2) (y : S1x192x1024.Idx) : EReal :=
  have h1 := half.isLt
  have h2 : (y 1).val < 192 := (y 1).isLt
  Spec.codeF (OO ⟨half.val * 192 + (y 1).val, by omega⟩ (y 2)) (Spec.invF (Spec.amax (fun r => OO r (y 2)) ⟨half.val * 2 + (y 1).val / 96, by omega⟩))

/-- One row of scales. -/
theorem sP (OO : Fin 384 → Fin 1024 → EReal) (O : Fin 384 → Fin 512 → EReal) (half : Fin 2) (t0 : ℕ)
    (hO : ∀ r (t : Fin 512) (h : t0 + t.val < 1024), OO r ⟨t0 + t.val, h⟩ = O r t) {k kv c : ℕ} (a : FVec Ideal S8x128 .f32)
    (ha : ∀ (j : Fin 8) (l : Fin 128), a (ix2 j l) = Spec.amax (fun r => O r ⟨j.val % 4 * 128 + l.val, by omega⟩) ⟨half.val * 2 + j.val / 4, by omega⟩)
    (hk : k < 8 ∧ kv = k / 4 ∧ c = t0 + k % 4 * 128) {hs : S8x128.Slices ![k, 0] S1x128}
    (inb : ∀ i, (![0, kv, c] : Fin 3 → ℕ) i + S1x1x128.size i ≤ S1x2x1024.size i) (x : S1x1x128.Idx) :
    (shapeCast S1x1x128 (extractStridedSlice S1x128 ![k, 0] (scv a) hs) shapeCasts_S1x128_S1x1x128 : FVec Ideal S1x1x128 .f32) x
      = sG OO half ((Rect.unit (s := S1x2x1024) ![0, kv, c] S1x1x128.size inb).emb x) := by
  obtain ⟨hk8, rfl, rfl⟩ := hk
  have x0 : (x 0).val < 1 := (x 0).isLt
  have x1 : (x 1).val < 1 := (x 1).isLt
  have x2 : (x 2).val < 128 := (x 2).isLt
  have e1 : ((Rect.unit (s := S1x2x1024) ![0, k / 4, t0 + k % 4 * 128] S1x1x128.size inb).emb x 1).val = k / 4 + (x 1).val := (Rect.emb_apply _ _ _).trans (by simp [Rect.unit])
  have e2 : ((Rect.unit (s := S1x2x1024) ![0, k / 4, t0 + k % 4 * 128] S1x1x128.size inb).emb x 2).val = t0 + k % 4 * 128 + (x 2).val := (Rect.emb_apply _ _ _).trans (by simp [Rect.unit])
  have e : (shapeCast S1x1x128 (extractStridedSlice S1x128 ![k, 0] (scv a) hs) shapeCasts_S1x128_S1x1x128 : FVec Ideal S1x1x128 .f32) x
      = scv a (ix2 (n0 := 8) (n1 := 128) ⟨k, hk8⟩ ⟨(x 2).val, x2⟩) := by
    generalize scv a = w
    pointwise
  rw [e, scv_apply, ha]
  clear e ha
  have hc2 : t0 + k % 4 * 128 + 128 ≤ 1024 := inb 2
  generalize (Rect.unit (s := S1x2x1024) ![0, k / 4, t0 + k % 4 * 128] S1x1x128.size inb).emb x = y at e1 e2 ⊢
  have o : ∀ r, OO r (y 2) = O r ⟨k % 4 * 128 + (x 2).val, by omega⟩ := fun r => by
    rw [← hO r _ (by dsimp; omega)]
    exact congrArg (OO r) (Fin.ext (by rw [e2]; dsimp; omega))
  unfold sG
  refine congrArg Spec.scaleF (congrArg₂ Spec.amax (funext fun r => (o r).symm) (Fin.ext ?_))
  show half.val * 2 + k / 4 = half.val * 2 + (y 1).val
  rw [e1]; omega

/-- Two heads of reciprocals. -/
theorem iP (O : Fin 384 → Fin 512 → EReal) (half : Fin 2) {i8 : ℕ} (a : FVec Ideal S8x128 .f32)
    (ha : ∀ (j : Fin 8) (l : Fin 128), a (ix2 j l) = Spec.amax (fun r => O r ⟨j.val % 4 * 128 + l.val, by omega⟩) ⟨half.val * 2 + j.val / 4, by omega⟩)
    (h8 : i8 = half.val * 8) (r : Fin 8) (l : Fin 128) (h : i8 + r.val < 16) (h' : 0 + l.val < 128) :
    (shapeCast S8x128 (ivv a) shapeCasts_S8x128_S8x128 : FVec Ideal S8x128 .f32) (ix2 r l) = iO O ⟨i8 + r.val, h⟩ ⟨0 + l.val, h'⟩ := by
  subst h8
  rw [shapeCast_self, ivv_apply, ha]
  unfold iO
  congr 2
  · funext q; congr 1; exact Fin.ext (by dsimp; omega)
  · exact Fin.ext (by dsimp; omega)

/-- A head of codes, 128 positions. -/
theorem cP (OO : Fin 384 → Fin 1024 → EReal) (O : Fin 384 → Fin 512 → EReal) (half : Fin 2) (t0 : ℕ)
    (hO : ∀ r (t : Fin 512) (h : t0 + t.val < 1024), OO r ⟨t0 + t.val, h⟩ = O r t) {b c k a l0 : ℕ} {o : FVec Ideal S96x128 .f32} {iv : FVec Ideal S1x128 .f32}
    (hk : b % 96 = 0 ∧ l0 % 128 = 0 ∧ a = half.val * 192 + b ∧ c = t0 + l0 ∧ k = half.val * 8 + b / 96 * 4 + l0 / 128)
    (ho : ∀ (r : Fin 96) (l : Fin 128) (h : a + r.val < 384) (h' : l0 + l.val < 512), o (ix2 r l) = O ⟨a + r.val, h⟩ ⟨l0 + l.val, h'⟩)
    (hi : ∀ (r : Fin 1) (l : Fin 128) (h : k + r.val < 16) (h' : 0 + l.val < 128), iv (ix2 r l) = iO O ⟨k + r.val, h⟩ ⟨0 + l.val, h'⟩)
    (hl : l0 + 128 ≤ 512)
    (inb : ∀ i, (![0, b, c] : Fin 3 → ℕ) i + S1x96x128.size i ≤ S1x192x1024.size i) (x : S1x96x128.Idx) :
    (shapeCast S1x96x128 (truncf .fp8e4m3 (minimumf (broadcast S96x128 (Scalar.ofBits .f32 0x43E00000#32)) (maximumf (broadcast S96x128 (Scalar.ofBits .f32 0xC3E00000#32))
      (mulf o (broadcastTo S96x128 iv broadcasts_S1x128_S96x128)))) bitsLt_fp8e4m3_f32 : FVec Ideal S96x128 .fp8e4m3) shapeCasts_S96x128_S1x96x128 : FVec Ideal S1x96x128 .fp8e4m3) x
      = cG OO half ((Rect.unit (s := S1x192x1024) ![0, b, c] S1x96x128.size inb).emb x) := by
  obtain ⟨hb, hl0, rfl, rfl, rfl⟩ := hk
  have x0 : (x 0).val < 1 := (x 0).isLt
  have x1 : (x 1).val < 96 := (x 1).isLt
  have x2 : (x 2).val < 128 := (x 2).isLt
  have hhalf := half.isLt
  have hb2 : b + 96 ≤ 192 := inb 1
  have hc2 : t0 + l0 + 128 ≤ 1024 := inb 2
  have e : (shapeCast S1x96x128 (truncf .fp8e4m3 (minimumf (broadcast S96x128 (Scalar.ofBits .f32 0x43E00000#32)) (maximumf (broadcast S96x128 (Scalar.ofBits .f32 0xC3E00000#32))
      (mulf o (broadcastTo S96x128 iv broadcasts_S1x128_S96x128)))) bitsLt_fp8e4m3_f32 : FVec Ideal S96x128 .fp8e4m3) shapeCasts_S96x128_S1x96x128 : FVec Ideal S1x96x128 .fp8e4m3) x
      = Spec.codeF (o (ix2 (n0 := 96) (n1 := 128) ⟨(x 1).val, x1⟩ ⟨(x 2).val, x2⟩)) (iv (ix2 (n0 := 1) (n1 := 128) 0 ⟨(x 2).val, x2⟩)) := by
    have hx : x = ix3 (n0 := 1) (n1 := 96) (n2 := 128) 0 ⟨(x 1).val, x1⟩ ⟨(x 2).val, x2⟩ := by
      funext i; refine Fin.ext ?_; fin_cases i <;> dsimp [ix3] <;> omega
    generalize (⟨(x 1).val, x1⟩ : Fin 96) = j1 at hx ⊢
    generalize (⟨(x 2).val, x2⟩ : Fin 128) = j2 at hx ⊢
    subst hx
    pointwise
    rfl
  rw [e, ho _ _ (by dsimp; omega) (by dsimp; omega), hi _ _ (by dsimp; omega) (by dsimp; omega)]
  clear e ho hi
  have e1 : ((Rect.unit (s := S1x192x1024) ![0, b, t0 + l0] S1x96x128.size inb).emb x 1).val = b + (x 1).val := (Rect.emb_apply _ _ _).trans (by simp [Rect.unit])
  have e2 : ((Rect.unit (s := S1x192x1024) ![0, b, t0 + l0] S1x96x128.size inb).emb x 2).val = t0 + l0 + (x 2).val := (Rect.emb_apply _ _ _).trans (by simp [Rect.unit])
  generalize (Rect.unit (s := S1x192x1024) ![0, b, t0 + l0] S1x96x128.size inb).emb x = y at e1 e2 ⊢
  have o : ∀ r, OO r (y 2) = O r ⟨l0 + (x 2).val, by omega⟩ := fun r => by
    rw [← hO r _ (by dsimp; omega)]
    exact congrArg (OO r) (Fin.ext (by rw [e2]; dsimp; omega))
  unfold cG iO
  refine congrArg₂ Spec.codeF ?_ (congrArg Spec.invF (congrArg₂ Spec.amax (funext fun r => ?_) (Fin.ext ?_)))
  · rw [o]
    exact congrArg (fun r => O r _) (Fin.ext (by show _ = half.val * 192 + (y 1).val; rw [e1]; dsimp; omega))
  · rw [o]
    exact congrArg (O r) (Fin.ext (by dsimp; omega))
  · show (half.val * 8 + b / 96 * 4 + l0 / 128 + 0) / 4 = half.val * 2 + (y 1).val / 96
    rw [e1]; omega

end Cert.KernelIdeal.Hand
-- ==== Proof.TileTwo.lean ====
/-
  The second tile of the quantiser: the rows it rotates and stores back.
-/
module

public import proofs.«01_k».proof.Proof.Carried
public import proofs.«01_k».proof.Proof.PieceQuant

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords)
  (M3 M4 : Memref sig .tc .vmem S192x1024 .fp8e4m3)
  (M5 : Memref sig .tc .vmem S1x192 .f32) (M6 : Memref sig .tc .vmem S1x192 .f32) (M7 M8 : Memref sig .tc .vmem S48x2048 .f32)
  (M13 : Memref sig .tc .vmem S384x1024 .bf16) (M15 : Memref sig .tc .vmem S512x1024 .bf16)
  (M16 M17 : Memref sig .tc .vmem S384x512 .f32) (M18 M19 : Memref sig .tc .vmem S192x2048 .f32) (M20 : Memref sig .tc .vmem S192x128 .f32)
  (M21 : Memref sig .tc .vmem S128x128 .f32) (M22 : Memref sig .tc .vmem S16x128 .f32)
  (f3 : Bf (F := Ideal) c M3) (f4 : Bf (F := Ideal) c M4)
  (f5 : Bf (F := Ideal) c M5) (f6 : Bf (F := Ideal) c M6) (f7 : Bf (F := Ideal) c M7) (f8 : Bf (F := Ideal) c M8)
  (f13 : Bf (F := Ideal) c M13) (f15 : Bf (F := Ideal) c M15)
  (f16 : Bf (F := Ideal) c M16) (f18 : Bf (F := Ideal) c M18) (f19 : Bf (F := Ideal) c M19) (f20 : Bf (F := Ideal) c M20)

/-- The product of the weights with the second half of the normalised block. -/
def A2 : FVec Ideal S384x512 .f32 := k0_pay648 (kernelRun.sl.v4554 c i M3 M4 M13 f3 f4 f13) (kernelRun.sl.v4555 c i M15 f15)

/-- The rotated rows of the second tile. -/
def O2 : Fin 384 → Fin 512 → EReal :=
  oG (A2 c i M3 M4 M13 M15 f3 f4 f13 f15) (M18.view.read (Elt Ideal) (C18 c i M5 M7 M18 f5 f7 f18))
    (M19.view.read (Elt Ideal) (C19 c i M5 M8 M19 f5 f8 f19)) (M20.view.read (Elt Ideal) (C20 c i M6 M20 f6 f20)) (posn i + 512) (by have := posn_le i; omega)

set_option maxHeartbeats 4000000 in
/-- The rows the second tile stores back are its rotated rows. -/
theorem pieces17 : ∀ p ∈ (kernelRun.sl.H17_25 c i M3 M4 M5 M6 M7 M8 M13 M15 M17 M18 M19 M20 f3 f4 f5 f6 f7 f8 f13 f15 f18 f19 f20).take 24,
    ∀ x : p.1.shape.Idx, p.2 x = arr2 (O2 c i M3 M4 M5 M6 M7 M8 M13 M15 M18 M19 M20 f3 f4 f5 f6 f7 f8 f13 f15 f18 f19 f20) (p.1.emb x) := by
  repeat
    (refine List.forall_mem_cons.2 ⟨?_, ?_⟩
     · refine fun x => piece2 (O2 c i M3 M4 M5 M6 M7 M8 M13 M15 M18 M19 M20 f3 f4 f5 f6 f7 f8 f13 f15 f18 f19 f20) ?_ ?_ x
       · decide
       · first
         | (refine oV _ _ _ _ _ _ ?_ ?_ ?_ ?_
            · decide
            · decide
            · exact fun r l h h' => rc2 _ _ (by rfl) (by rfl) r l h h'
            · exact fun r l h h' => rd2 _ _ r l h h')
         | (refine oK _ _ _ _ _ _ ?_ ?_ ?_ ?_ ?_ ?_
            · decide
            · decide
            · exact fun r l h h' => rc2 _ _ (by rfl) (by rfl) r l h h'
            · exact fun r l h h' => rc2 _ _ (by rfl) (by rfl) r l h h'
            all_goals
              (intro r l h h'
               refine rd2d _ _ ?_ r l h h'
               first
               | (with_reducible refine off5 i _ _ ?_ ?_) <;> first | rfl | decide
               | (with_reducible refine off6 i _ _ ?_ ?_) <;> first | rfl | decide
               | (with_reducible refine off7 i _ _ ?_ ?_) <;> first | rfl | decide
               | (with_reducible refine off8 i _ _ ?_ ?_) <;> first | rfl | decide)))
  exact fun p h => absurd h List.not_mem_nil

/-- The stores of the second tile's rows cover their buffer. -/
theorem cover17 : ∀ y, ∃ p ∈ (kernelRun.sl.H17_25 c i M3 M4 M5 M6 M7 M8 M13 M15 M17 M18 M19 M20 f3 f4 f5 f6 f7 f8 f13 f15 f18 f19 f20).take 24, y ∈ p.1.set :=
  cover_of_tileCov _ (by rfl)

end Cert.KernelIdeal.Hand
-- ==== Proof.TileTwoMax.lean ====
/-
  The second tile of the quantiser: its maxima.
-/
module

public import proofs.«01_k».proof.Proof.TileTwo

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords)
  (M3 M4 : Memref sig .tc .vmem S192x1024 .fp8e4m3)
  (M5 : Memref sig .tc .vmem S1x192 .f32) (M6 : Memref sig .tc .vmem S1x192 .f32) (M7 M8 : Memref sig .tc .vmem S48x2048 .f32)
  (M13 : Memref sig .tc .vmem S384x1024 .bf16) (M15 : Memref sig .tc .vmem S512x1024 .bf16)
  (M16 M17 : Memref sig .tc .vmem S384x512 .f32) (M18 M19 : Memref sig .tc .vmem S192x2048 .f32) (M20 : Memref sig .tc .vmem S192x128 .f32)
  (M21 : Memref sig .tc .vmem S128x128 .f32) (M22 : Memref sig .tc .vmem S16x128 .f32)
  (f3 : Bf (F := Ideal) c M3) (f4 : Bf (F := Ideal) c M4)
  (f5 : Bf (F := Ideal) c M5) (f6 : Bf (F := Ideal) c M6) (f7 : Bf (F := Ideal) c M7) (f8 : Bf (F := Ideal) c M8)
  (f13 : Bf (F := Ideal) c M13) (f15 : Bf (F := Ideal) c M15)
  (f16 : Bf (F := Ideal) c M16) (f18 : Bf (F := Ideal) c M18) (f19 : Bf (F := Ideal) c M19) (f20 : Bf (F := Ideal) c M20)

set_option maxHeartbeats 4000000 in
/-- The maxima the second tile stores. -/
theorem pieces21b : ∀ p ∈ (kernelRun.sl.H21_32 c i M3 M4 M5 M6 M7 M8 M13 M15 M16 M17 M18 M19 M20 f3 f4 f5 f6 f7 f8 f13 f15 f16 f18 f19 f20).take 16,
    ∀ x : p.1.shape.Idx, p.2 x = arr2 (mO (O2 c i M3 M4 M5 M6 M7 M8 M13 M15 M18 M19 M20 f3 f4 f5 f6 f7 f8 f13 f15 f18 f19 f20)) (p.1.emb x) := by
  iterate 8
    (refine List.forall_mem_cons.2 ⟨?_, ?_⟩
     · refine fun x => piece2 (mO (O2 c i M3 M4 M5 M6 M7 M8 M13 M15 M18 M19 M20 f3 f4 f5 f6 f7 f8 f13 f15 f18 f19 f20)) ?_ ?_ x
       · decide
       · simp only [
      kernelRun.sl.r_516, kernelRun.sl.r_517, kernelRun.sl.r_518, kernelRun.sl.r_519, kernelRun.sl.r_520, kernelRun.sl.r_521, kernelRun.sl.r_522,
      kernelRun.sl.r_523, kernelRun.sl.r_524, kernelRun.sl.r_525, kernelRun.sl.r_526, kernelRun.sl.r_527, kernelRun.sl.r_528, kernelRun.sl.r_529,
      kernelRun.sl.r_530, kernelRun.sl.r_531, kernelRun.sl.r_532, kernelRun.sl.r_533, kernelRun.sl.r_534, kernelRun.sl.r_535, kernelRun.sl.r_536,
      kernelRun.sl.r_537, kernelRun.sl.r_538, k0_pay1310, k0_pay1312, k0_pay1313, k0_pay1314, k0_pay1315, k0_pay1316, k0_pay1317, k0_pay1318,
      k0_pay1320, k0_pay1321, k0_pay1322, k0_pay1323, k0_pay1325, k0_pay1326, k0_pay1327, k0_pay1329, k0_pay1330, k0_pay1332, k0_pay1333, k0_pay1335,
      k0_pay1336, k0_pay1338, k0_pay1339, k0_pay1340, k0_pay1341, k0_pay1342, k0_pay1344, k0_pay1345, k0_pay1346, k0_pay1347, k0_pay1348, k0_pay1349,
      k0_pay1350, k0_pay1351, k0_pay1352, k0_pay1353]
         refine mV _ ?_ ?_
         · decide
         · refine oV0 _ _ _ _ _ _ ?_ ?_ ?_ ?_
           · decide
           · decide
           · exact fun r l h h' => rc2 _ _ (by rfl) (by rfl) r l h h'
           · exact fun r l h h' => rd2 _ _ r l h h')
  iterate 8
    (refine List.forall_mem_cons.2 ⟨?_, ?_⟩
     · refine fun x => piece2 (mO (O2 c i M3 M4 M5 M6 M7 M8 M13 M15 M18 M19 M20 f3 f4 f5 f6 f7 f8 f13 f15 f18 f19 f20)) ?_ ?_ x
       · decide
       · simp only [
      kernelRun.sl.r_475, kernelRun.sl.r_476, kernelRun.sl.r_477, kernelRun.sl.r_478, kernelRun.sl.r_479, kernelRun.sl.r_480, kernelRun.sl.r_481,
      kernelRun.sl.r_482, kernelRun.sl.r_483, kernelRun.sl.r_484, kernelRun.sl.r_485, kernelRun.sl.r_486, kernelRun.sl.r_487, kernelRun.sl.r_488,
      kernelRun.sl.r_489, kernelRun.sl.r_490, kernelRun.sl.r_491, kernelRun.sl.r_492, kernelRun.sl.r_493, kernelRun.sl.r_494, kernelRun.sl.r_495,
      kernelRun.sl.r_496, kernelRun.sl.r_497, kernelRun.sl.r_498, kernelRun.sl.r_499, kernelRun.sl.r_500, kernelRun.sl.r_501, kernelRun.sl.r_502,
      kernelRun.sl.r_503, kernelRun.sl.r_504, kernelRun.sl.r_506, kernelRun.sl.r_507, kernelRun.sl.r_508, kernelRun.sl.r_509, kernelRun.sl.r_510,
      kernelRun.sl.r_511, kernelRun.sl.r_512, kernelRun.sl.r_513, kernelRun.sl.r_514, kernelRun.sl.r_515, k0_pay1236, k0_pay1237, k0_pay1238,
      k0_pay1241, k0_pay1242, k0_pay1243, k0_pay1244, k0_pay1245, k0_pay1248, k0_pay1249, k0_pay1250, k0_pay1251, k0_pay1252, k0_pay1253, k0_pay1254,
      k0_pay1255, k0_pay1256, k0_pay1257, k0_pay1258, k0_pay1259, k0_pay1260, k0_pay1261, k0_pay1264, k0_pay1265, k0_pay1266, k0_pay1267, k0_pay1270,
      k0_pay1271, k0_pay1272, k0_pay1273, k0_pay1276, k0_pay1277, k0_pay1278, k0_pay1279, k0_pay1280, k0_pay1281, k0_pay1282, k0_pay1283, k0_pay1284,
      k0_pay1285, k0_pay1286, k0_pay1287, k0_pay1288, k0_pay1291, k0_pay1292, k0_pay1293, k0_pay1296, k0_pay1297, k0_pay1298, k0_pay1301, k0_pay1302,
      k0_pay1303, k0_pay1304, k0_pay1305, k0_pay1306, k0_pay1307, k0_pay1308, k0_pay1309]
         refine mK _ ?_ ?_ ?_
         · decide
         all_goals
           (refine oK0 _ _ _ _ _ _ ?_ ?_ ?_ ?_ ?_ ?_
            · decide
            · decide
            · exact fun r l h h' => rc2 _ _ (by rfl) (by rfl) r l h h'
            · exact fun r l h h' => rc2 _ _ (by rfl) (by rfl) r l h h'
            all_goals
              (intro r l h h'
               refine rd2d _ _ ?_ r l h h'
               first
               | (with_reducible refine off5 i _ _ ?_ ?_) <;> first | rfl | decide
               | (with_reducible refine off6 i _ _ ?_ ?_) <;> first | rfl | decide
               | (with_reducible refine off7 i _ _ ?_ ?_) <;> first | rfl | decide
               | (with_reducible refine off8 i _ _ ?_ ?_) <;> first | rfl | decide)))
  exact fun p h => absurd h List.not_mem_nil

/-- The stores of the second tile's maxima cover their buffer. -/
theorem cover21b : ∀ y, ∃ p ∈ (kernelRun.sl.H21_32 c i M3 M4 M5 M6 M7 M8 M13 M15 M16 M17 M18 M19 M20 f3 f4 f5 f6 f7 f8 f13 f15 f16 f18 f19 f20).take 16, y ∈ p.1.set :=
  View.cover_of_tiled _ S8x128.size (by rfl)

end Cert.KernelIdeal.Hand
-- ==== Proof.TileTwoScale.lean ====
/-
  The second tile of the quantiser: its scales.
-/
module

public import proofs.«01_k».proof.Proof.TileTwoMax

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords)
  (M3 M4 : Memref sig .tc .vmem S192x1024 .fp8e4m3)
  (M5 : Memref sig .tc .vmem S1x192 .f32) (M6 : Memref sig .tc .vmem S1x192 .f32) (M7 M8 : Memref sig .tc .vmem S48x2048 .f32)
  (M13 : Memref sig .tc .vmem S384x1024 .bf16) (M15 : Memref sig .tc .vmem S512x1024 .bf16)
  (M16 M17 : Memref sig .tc .vmem S384x512 .f32) (M18 M19 : Memref sig .tc .vmem S192x2048 .f32) (M20 : Memref sig .tc .vmem S192x128 .f32)
  (M21 : Memref sig .tc .vmem S128x128 .f32) (M22 : Memref sig .tc .vmem S16x128 .f32)
  (f3 : Bf (F := Ideal) c M3) (f4 : Bf (F := Ideal) c M4)
  (f5 : Bf (F := Ideal) c M5) (f6 : Bf (F := Ideal) c M6) (f7 : Bf (F := Ideal) c M7) (f8 : Bf (F := Ideal) c M8)
  (f13 : Bf (F := Ideal) c M13) (f15 : Bf (F := Ideal) c M15)
  (f16 : Bf (F := Ideal) c M16) (f18 : Bf (F := Ideal) c M18) (f19 : Bf (F := Ideal) c M19) (f20 : Bf (F := Ideal) c M20)

set_option maxHeartbeats 4000000 in
/-- The scales the second tile stores, half 0. -/
theorem pieces10b (OO : Fin 384 → Fin 1024 → EReal) (hO : ∀ r (t : Fin 512) (h : 512 + t.val < 1024), OO r ⟨512 + t.val, h⟩ = (O2 c i M3 M4 M5 M6 M7 M8 M13 M15 M18 M19 M20 f3 f4 f5 f6 f7 f8 f13 f15 f18 f19 f20) r t) :
    ∀ p ∈ (kernelRun.sl.H10_16 c i M3 M4 M5 M6 M7 M8 M13 M15 M16 M17 M18 M19 M20 M21 f3 f4 f5 f6 f7 f8 f13 f15 f16 f18 f19 f20).take 8, ∀ x : p.1.shape.Idx, p.2 x = sG OO 0 (p.1.emb x) := by
  repeat
    (refine List.forall_mem_cons.2 ⟨?_, ?_⟩
     · refine fun x => sP (hs := ?_) OO (O2 c i M3 M4 M5 M6 M7 M8 M13 M15 M18 M19 M20 f3 f4 f5 f6 f7 f8 f13 f15 f18 f19 f20) 0 512 hO _ ?_ ?_ ?_ x
       · exact (fun j l => aK (O2 c i M3 M4 M5 M6 M7 M8 M13 M15 M18 M19 M20 f3 f4 f5 f6 f7 f8 f13 f15 f18 f19 f20) 0 (fun j l s => by
             fin_cases s <;> exact rcm _ _ 16 (pieces21b c i M3 M4 M5 M6 M7 M8 M13 M15 M16 M17 M18 M19 M20 f3 f4 f5 f6 f7 f8 f13 f15 f16 f18 f19 f20) (cover21b c i M3 M4 M5 M6 M7 M8 M13 M15 M16 M17 M18 M19 M20 f3 f4 f5 f6 f7 f8 f13 f15 f16 f18 f19 f20) j l _) j l)
       all_goals decide)
  exact fun p h => absurd h List.not_mem_nil

set_option maxHeartbeats 4000000 in
/-- The scales the second tile stores, half 1. -/
theorem pieces12b (OO : Fin 384 → Fin 1024 → EReal) (hO : ∀ r (t : Fin 512) (h : 512 + t.val < 1024), OO r ⟨512 + t.val, h⟩ = (O2 c i M3 M4 M5 M6 M7 M8 M13 M15 M18 M19 M20 f3 f4 f5 f6 f7 f8 f13 f15 f18 f19 f20) r t) :
    ∀ p ∈ (kernelRun.sl.H12_16 c i M3 M4 M5 M6 M7 M8 M13 M15 M16 M17 M18 M19 M20 M21 f3 f4 f5 f6 f7 f8 f13 f15 f16 f18 f19 f20).take 8, ∀ x : p.1.shape.Idx, p.2 x = sG OO 1 (p.1.emb x) := by
  repeat
    (refine List.forall_mem_cons.2 ⟨?_, ?_⟩
     · refine fun x => sP (hs := ?_) OO (O2 c i M3 M4 M5 M6 M7 M8 M13 M15 M18 M19 M20 f3 f4 f5 f6 f7 f8 f13 f15 f18 f19 f20) 1 512 hO _ ?_ ?_ ?_ x
       · exact (fun j l => aK (O2 c i M3 M4 M5 M6 M7 M8 M13 M15 M18 M19 M20 f3 f4 f5 f6 f7 f8 f13 f15 f18 f19 f20) 1 (fun j l s => by
             fin_cases s <;> exact rcm _ _ 16 (pieces21b c i M3 M4 M5 M6 M7 M8 M13 M15 M16 M17 M18 M19 M20 f3 f4 f5 f6 f7 f8 f13 f15 f16 f18 f19 f20) (cover21b c i M3 M4 M5 M6 M7 M8 M13 M15 M16 M17 M18 M19 M20 f3 f4 f5 f6 f7 f8 f13 f15 f16 f18 f19 f20) j l _) j l)
       all_goals decide)
  exact fun p h => absurd h List.not_mem_nil

end Cert.KernelIdeal.Hand
-- ==== Proof.TileTwoCode.lean ====
/-
  The second tile of the quantiser: its reciprocals and codes.
-/
module

public import proofs.«01_k».proof.Proof.TileTwoScale

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords)
  (M3 M4 : Memref sig .tc .vmem S192x1024 .fp8e4m3)
  (M5 : Memref sig .tc .vmem S1x192 .f32) (M6 : Memref sig .tc .vmem S1x192 .f32) (M7 M8 : Memref sig .tc .vmem S48x2048 .f32)
  (M13 : Memref sig .tc .vmem S384x1024 .bf16) (M15 : Memref sig .tc .vmem S512x1024 .bf16)
  (M16 M17 : Memref sig .tc .vmem S384x512 .f32) (M18 M19 : Memref sig .tc .vmem S192x2048 .f32) (M20 : Memref sig .tc .vmem S192x128 .f32)
  (M21 : Memref sig .tc .vmem S128x128 .f32) (M22 : Memref sig .tc .vmem S16x128 .f32)
  (f3 : Bf (F := Ideal) c M3) (f4 : Bf (F := Ideal) c M4)
  (f5 : Bf (F := Ideal) c M5) (f6 : Bf (F := Ideal) c M6) (f7 : Bf (F := Ideal) c M7) (f8 : Bf (F := Ideal) c M8)
  (f13 : Bf (F := Ideal) c M13) (f15 : Bf (F := Ideal) c M15)
  (f16 : Bf (F := Ideal) c M16) (f18 : Bf (F := Ideal) c M18) (f19 : Bf (F := Ideal) c M19) (f20 : Bf (F := Ideal) c M20)

set_option maxHeartbeats 4000000 in
/-- The reciprocals the second tile stores. -/
theorem pieces22b : ∀ p ∈ (kernelRun.sl.H22_4 c i M3 M4 M5 M6 M7 M8 M13 M15 M16 M17 M18 M19 M20 M21 f3 f4 f5 f6 f7 f8 f13 f15 f16 f18 f19 f20).take 2, ∀ x : p.1.shape.Idx,
    p.2 x = arr2 (iO (O2 c i M3 M4 M5 M6 M7 M8 M13 M15 M18 M19 M20 f3 f4 f5 f6 f7 f8 f13 f15 f18 f19 f20)) (p.1.emb x) := by
  refine List.forall_mem_cons.2 ⟨fun x => piece2 (iO (O2 c i M3 M4 M5 M6 M7 M8 M13 M15 M18 M19 M20 f3 f4 f5 f6 f7 f8 f13 f15 f18 f19 f20)) ?_ ?_ x,
    List.forall_mem_cons.2 ⟨fun x => piece2 (iO (O2 c i M3 M4 M5 M6 M7 M8 M13 M15 M18 M19 M20 f3 f4 f5 f6 f7 f8 f13 f15 f18 f19 f20)) ?_ ?_ x, fun p h => absurd h List.not_mem_nil⟩⟩
  · decide
  · refine iP (O2 c i M3 M4 M5 M6 M7 M8 M13 M15 M18 M19 M20 f3 f4 f5 f6 f7 f8 f13 f15 f18 f19 f20) 1 _ ?_ rfl
    exact fun j l => aK (O2 c i M3 M4 M5 M6 M7 M8 M13 M15 M18 M19 M20 f3 f4 f5 f6 f7 f8 f13 f15 f18 f19 f20) 1 (fun j l s => by
      fin_cases s <;> exact rcm _ _ 16 (pieces21b c i M3 M4 M5 M6 M7 M8 M13 M15 M16 M17 M18 M19 M20 f3 f4 f5 f6 f7 f8 f13 f15 f16 f18 f19 f20) (cover21b c i M3 M4 M5 M6 M7 M8 M13 M15 M16 M17 M18 M19 M20 f3 f4 f5 f6 f7 f8 f13 f15 f16 f18 f19 f20) j l _) j l
  · decide
  · refine iP (O2 c i M3 M4 M5 M6 M7 M8 M13 M15 M18 M19 M20 f3 f4 f5 f6 f7 f8 f13 f15 f18 f19 f20) 0 _ ?_ rfl
    exact fun j l => aK (O2 c i M3 M4 M5 M6 M7 M8 M13 M15 M18 M19 M20 f3 f4 f5 f6 f7 f8 f13 f15 f18 f19 f20) 0 (fun j l s => by
      fin_cases s <;> exact rcm _ _ 16 (pieces21b c i M3 M4 M5 M6 M7 M8 M13 M15 M16 M17 M18 M19 M20 f3 f4 f5 f6 f7 f8 f13 f15 f16 f18 f19 f20) (cover21b c i M3 M4 M5 M6 M7 M8 M13 M15 M16 M17 M18 M19 M20 f3 f4 f5 f6 f7 f8 f13 f15 f16 f18 f19 f20) j l _) j l

/-- The stores of the reciprocals cover their buffer. -/
theorem cover22b : ∀ y, ∃ p ∈ (kernelRun.sl.H22_4 c i M3 M4 M5 M6 M7 M8 M13 M15 M16 M17 M18 M19 M20 M21 f3 f4 f5 f6 f7 f8 f13 f15 f16 f18 f19 f20).take 2, y ∈ p.1.set :=
  View.cover_of_tiled _ S8x128.size (by rfl)

set_option maxHeartbeats 4000000 in
/-- The codes the second tile stores, half 0. -/
theorem pieces9b (OO : Fin 384 → Fin 1024 → EReal) (hO : ∀ r (t : Fin 512) (h : 512 + t.val < 1024), OO r ⟨512 + t.val, h⟩ = (O2 c i M3 M4 M5 M6 M7 M8 M13 M15 M18 M19 M20 f3 f4 f5 f6 f7 f8 f13 f15 f18 f19 f20) r t) :
    ∀ p ∈ (kernelRun.sl.H9_16 c i M3 M4 M5 M6 M7 M8 M13 M15 M16 M17 M18 M19 M20 M21 M22 f3 f4 f5 f6 f7 f8 f13 f15 f16 f18 f19 f20).take 8, ∀ x : p.1.shape.Idx, p.2 x = cG OO 0 (p.1.emb x) := by
  repeat
    (refine List.forall_mem_cons.2 ⟨?_, ?_⟩
     · refine fun x => cP (l0 := ?_) (a := ?_) (k := ?_) OO (O2 c i M3 M4 M5 M6 M7 M8 M13 M15 M18 M19 M20 f3 f4 f5 f6 f7 f8 f13 f15 f18 f19 f20) 0 512 hO ?_ ?_ ?_ ?_ ?_ x
       rotate_left 4
       · intro r l h h'
         refine rct _ _ 24 ?_ ?_ r l h h'
         · exact pieces17 c i M3 M4 M5 M6 M7 M8 M13 M15 M17 M18 M19 M20 f3 f4 f5 f6 f7 f8 f13 f15 f18 f19 f20
         · exact cover17 c i M3 M4 M5 M6 M7 M8 M13 M15 M17 M18 M19 M20 f3 f4 f5 f6 f7 f8 f13 f15 f18 f19 f20
       · intro r l h h'
         refine rct _ _ 2 ?_ ?_ r l h h'
         · exact pieces22b c i M3 M4 M5 M6 M7 M8 M13 M15 M16 M17 M18 M19 M20 M21 f3 f4 f5 f6 f7 f8 f13 f15 f16 f18 f19 f20
         · exact cover22b c i M3 M4 M5 M6 M7 M8 M13 M15 M16 M17 M18 M19 M20 M21 f3 f4 f5 f6 f7 f8 f13 f15 f16 f18 f19 f20
       all_goals decide)
  exact fun p h => absurd h List.not_mem_nil

set_option maxHeartbeats 4000000 in
/-- The codes the second tile stores, half 1. -/
theorem pieces11b (OO : Fin 384 → Fin 1024 → EReal) (hO : ∀ r (t : Fin 512) (h : 512 + t.val < 1024), OO r ⟨512 + t.val, h⟩ = (O2 c i M3 M4 M5 M6 M7 M8 M13 M15 M18 M19 M20 f3 f4 f5 f6 f7 f8 f13 f15 f18 f19 f20) r t) :
    ∀ p ∈ (kernelRun.sl.H11_16 c i M3 M4 M5 M6 M7 M8 M13 M15 M16 M17 M18 M19 M20 M21 M22 f3 f4 f5 f6 f7 f8 f13 f15 f16 f18 f19 f20).take 8, ∀ x : p.1.shape.Idx, p.2 x = cG OO 1 (p.1.emb x) := by
  repeat
    (refine List.forall_mem_cons.2 ⟨?_, ?_⟩
     · refine fun x => cP (l0 := ?_) (a := ?_) (k := ?_) OO (O2 c i M3 M4 M5 M6 M7 M8 M13 M15 M18 M19 M20 f3 f4 f5 f6 f7 f8 f13 f15 f18 f19 f20) 1 512 hO ?_ ?_ ?_ ?_ ?_ x
       rotate_left 4
       · intro r l h h'
         refine rct _ _ 24 ?_ ?_ r l h h'
         · exact pieces17 c i M3 M4 M5 M6 M7 M8 M13 M15 M17 M18 M19 M20 f3 f4 f5 f6 f7 f8 f13 f15 f18 f19 f20
         · exact cover17 c i M3 M4 M5 M6 M7 M8 M13 M15 M17 M18 M19 M20 f3 f4 f5 f6 f7 f8 f13 f15 f18 f19 f20
       · intro r l h h'
         refine rct _ _ 2 ?_ ?_ r l h h'
         · exact pieces22b c i M3 M4 M5 M6 M7 M8 M13 M15 M16 M17 M18 M19 M20 M21 f3 f4 f5 f6 f7 f8 f13 f15 f16 f18 f19 f20
         · exact cover22b c i M3 M4 M5 M6 M7 M8 M13 M15 M16 M17 M18 M19 M20 M21 f3 f4 f5 f6 f7 f8 f13 f15 f16 f18 f19 f20
       all_goals decide)
  exact fun p h => absurd h List.not_mem_nil

end Cert.KernelIdeal.Hand
-- ==== Proof.TileOne.lean ====
/-
  The first tile of the quantiser: what its stores hold, from the carried products and tables.
-/
module

public import proofs.«01_k».proof.Proof.Carried
public import proofs.«01_k».proof.Proof.PieceQuant

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords)
  (M5 : Memref sig .tc .vmem S1x192 .f32) (M6 : Memref sig .tc .vmem S1x192 .f32) (M7 M8 : Memref sig .tc .vmem S48x2048 .f32)
  (M16 : Memref sig .tc .vmem S384x512 .f32) (M18 M19 : Memref sig .tc .vmem S192x2048 .f32) (M20 : Memref sig .tc .vmem S192x128 .f32)
  (M21 : Memref sig .tc .vmem S128x128 .f32) (M22 : Memref sig .tc .vmem S16x128 .f32)
  (f5 : Bf (F := Ideal) c M5) (f6 : Bf (F := Ideal) c M6) (f7 : Bf (F := Ideal) c M7) (f8 : Bf (F := Ideal) c M8)
  (f16 : Bf (F := Ideal) c M16) (f18 : Bf (F := Ideal) c M18) (f19 : Bf (F := Ideal) c M19) (f20 : Bf (F := Ideal) c M20)

/-- The rotated rows of the first tile. -/
def O1 : Fin 384 → Fin 512 → EReal :=
  oG (M16.view.read (Elt Ideal) (C16 c i M16 f16)) (M18.view.read (Elt Ideal) (C18 c i M5 M7 M18 f5 f7 f18))
    (M19.view.read (Elt Ideal) (C19 c i M5 M8 M19 f5 f8 f19)) (M20.view.read (Elt Ideal) (C20 c i M6 M20 f6 f20)) (posn i) (by have := posn_le i; omega)

set_option maxHeartbeats 4000000 in
/-- The rows the first tile stores back are its rotated rows. -/
theorem pieces16 : ∀ p ∈ kernelRun.sl.H16_24 c i M5 M6 M7 M8 M16 M18 M19 M20 f5 f6 f7 f8 f16 f18 f19 f20,
    ∀ x : p.1.shape.Idx, p.2 x = arr2 (O1 c i M5 M6 M7 M8 M16 M18 M19 M20 f5 f6 f7 f8 f16 f18 f19 f20) (p.1.emb x) := by
  repeat
    (refine List.forall_mem_cons.2 ⟨?_, ?_⟩
     · refine fun x => piece2 (O1 c i M5 M6 M7 M8 M16 M18 M19 M20 f5 f6 f7 f8 f16 f18 f19 f20) ?_ ?_ x
       · decide
       · first
         | (refine oV _ _ _ _ _ _ ?_ ?_ ?_ ?_
            · decide
            · decide
            · exact fun r l h h' => rd2 _ _ r l h h'
            · exact fun r l h h' => rd2 _ _ r l h h')
         | (refine oK _ _ _ _ _ _ ?_ ?_ ?_ ?_ ?_ ?_
            · decide
            · decide
            · exact fun r l h h' => rd2 _ _ r l h h'
            · exact fun r l h h' => rd2 _ _ r l h h'
            all_goals
              (intro r l h h'
               refine rd2d _ _ ?_ r l h h'
               first
               | (with_reducible refine off1 i _ _ ?_ ?_) <;> first | rfl | decide
               | (with_reducible refine off2 i _ _ ?_ ?_) <;> first | rfl | decide
               | (with_reducible refine off3 i _ _ ?_ ?_) <;> first | rfl | decide
               | (with_reducible refine off4 i _ _ ?_ ?_) <;> first | rfl | decide)))
  exact fun p h => absurd h List.not_mem_nil

/-- The stores of the first tile's rows cover their buffer. -/
theorem cover16 : ∀ y, ∃ p ∈ kernelRun.sl.H16_24 c i M5 M6 M7 M8 M16 M18 M19 M20 f5 f6 f7 f8 f16 f18 f19 f20, y ∈ p.1.set :=
  cover_of_tileCov _ (by rfl)

end Cert.KernelIdeal.Hand
-- ==== Proof.TileOneMax.lean ====
/-
  The first tile of the quantiser: its maxima.
-/
module

public import proofs.«01_k».proof.Proof.TileOne

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords)
  (M5 : Memref sig .tc .vmem S1x192 .f32) (M6 : Memref sig .tc .vmem S1x192 .f32) (M7 M8 : Memref sig .tc .vmem S48x2048 .f32)
  (M16 : Memref sig .tc .vmem S384x512 .f32) (M18 M19 : Memref sig .tc .vmem S192x2048 .f32) (M20 : Memref sig .tc .vmem S192x128 .f32)
  (M21 : Memref sig .tc .vmem S128x128 .f32) (M22 : Memref sig .tc .vmem S16x128 .f32)
  (f5 : Bf (F := Ideal) c M5) (f6 : Bf (F := Ideal) c M6) (f7 : Bf (F := Ideal) c M7) (f8 : Bf (F := Ideal) c M8)
  (f16 : Bf (F := Ideal) c M16) (f18 : Bf (F := Ideal) c M18) (f19 : Bf (F := Ideal) c M19) (f20 : Bf (F := Ideal) c M20)

set_option maxHeartbeats 4000000 in
/-- The maxima the first tile stores. -/
theorem pieces21 : ∀ p ∈ kernelRun.sl.H21_16 c i M5 M6 M7 M8 M16 M18 M19 M20 f5 f6 f7 f8 f16 f18 f19 f20,
    ∀ x : p.1.shape.Idx, p.2 x = arr2 (mO (O1 c i M5 M6 M7 M8 M16 M18 M19 M20 f5 f6 f7 f8 f16 f18 f19 f20)) (p.1.emb x) := by
  iterate 8
    (refine List.forall_mem_cons.2 ⟨?_, ?_⟩
     · refine fun x => piece2 (mO (O1 c i M5 M6 M7 M8 M16 M18 M19 M20 f5 f6 f7 f8 f16 f18 f19 f20)) ?_ ?_ x
       · decide
       · simp only [
      kernelRun.sl.r_264, kernelRun.sl.r_265, kernelRun.sl.r_266, kernelRun.sl.r_267, kernelRun.sl.r_268, kernelRun.sl.r_269, kernelRun.sl.r_270,
      kernelRun.sl.r_271, kernelRun.sl.r_272, kernelRun.sl.r_273, kernelRun.sl.r_274, kernelRun.sl.r_275, kernelRun.sl.r_276, kernelRun.sl.r_277,
      kernelRun.sl.r_278, kernelRun.sl.r_279, kernelRun.sl.r_280, kernelRun.sl.r_281, kernelRun.sl.r_282, kernelRun.sl.r_283, kernelRun.sl.r_284,
      kernelRun.sl.r_285, kernelRun.sl.r_286, kernelRun.sl.r_287, kernelRun.sl.r_288, kernelRun.sl.r_289, kernelRun.sl.r_290, kernelRun.sl.r_291,
      kernelRun.sl.r_292, kernelRun.sl.r_293, kernelRun.sl.r_294, kernelRun.sl.r_295, kernelRun.sl.r_296, kernelRun.sl.r_297, kernelRun.sl.r_298,
      kernelRun.sl.r_299, kernelRun.sl.r_300, kernelRun.sl.r_301, kernelRun.sl.r_302, kernelRun.sl.r_303, kernelRun.sl.r_304, kernelRun.sl.r_305,
      k0_pay721, k0_pay723, k0_pay724, k0_pay726, k0_pay727, k0_pay728, k0_pay729, k0_pay730, k0_pay732, k0_pay733, k0_pay734, k0_pay735, k0_pay736,
      k0_pay737, k0_pay738, k0_pay739, k0_pay740, k0_pay741, k0_pay742, k0_pay744, k0_pay745, k0_pay746, k0_pay747, k0_pay748, k0_pay749, k0_pay750,
      k0_pay751, k0_pay752, k0_pay753, k0_pay754, k0_pay755, k0_pay756, k0_pay758, k0_pay759, k0_pay760, k0_pay761, k0_pay762, k0_pay763, k0_pay764,
      k0_pay765, k0_pay766, k0_pay767, k0_pay769, k0_pay770, k0_pay771, k0_pay772, k0_pay773, k0_pay774, k0_pay775, k0_pay777, k0_pay778, k0_pay779,
      k0_pay780, k0_pay782, k0_pay783]
         refine mV _ ?_ ?_
         · decide
         · refine oV0 _ _ _ _ _ _ ?_ ?_ ?_ ?_
           · decide
           · decide
           · exact fun r l h h' => rd2 _ _ r l h h'
           · exact fun r l h h' => rd2 _ _ r l h h')
  iterate 8
    (refine List.forall_mem_cons.2 ⟨?_, ?_⟩
     · refine fun x => piece2 (mO (O1 c i M5 M6 M7 M8 M16 M18 M19 M20 f5 f6 f7 f8 f16 f18 f19 f20)) ?_ ?_ x
       · decide
       · simp only [
      kernelRun.sl.r_223, kernelRun.sl.r_224, kernelRun.sl.r_225, kernelRun.sl.r_226, kernelRun.sl.r_227, kernelRun.sl.r_228, kernelRun.sl.r_229,
      kernelRun.sl.r_230, kernelRun.sl.r_231, kernelRun.sl.r_232, kernelRun.sl.r_233, kernelRun.sl.r_234, kernelRun.sl.r_235, kernelRun.sl.r_236,
      kernelRun.sl.r_237, kernelRun.sl.r_238, kernelRun.sl.r_239, kernelRun.sl.r_240, kernelRun.sl.r_241, kernelRun.sl.r_242, kernelRun.sl.r_243,
      kernelRun.sl.r_244, kernelRun.sl.r_245, kernelRun.sl.r_246, kernelRun.sl.r_247, kernelRun.sl.r_248, kernelRun.sl.r_249, kernelRun.sl.r_250,
      kernelRun.sl.r_251, kernelRun.sl.r_252, kernelRun.sl.r_253, kernelRun.sl.r_254, kernelRun.sl.r_255, kernelRun.sl.r_256, kernelRun.sl.r_257,
      kernelRun.sl.r_258, kernelRun.sl.r_259, kernelRun.sl.r_260, kernelRun.sl.r_261, kernelRun.sl.r_262, kernelRun.sl.r_263, k0_pay649, k0_pay650,
      k0_pay653, k0_pay654, k0_pay655, k0_pay656, k0_pay657, k0_pay658, k0_pay659, k0_pay660, k0_pay663, k0_pay664, k0_pay665, k0_pay668, k0_pay669,
      k0_pay670, k0_pay671, k0_pay672, k0_pay673, k0_pay674, k0_pay675, k0_pay676, k0_pay679, k0_pay680, k0_pay681, k0_pay682, k0_pay683, k0_pay684,
      k0_pay685, k0_pay686, k0_pay687, k0_pay688, k0_pay691, k0_pay692, k0_pay693, k0_pay696, k0_pay697, k0_pay698, k0_pay699, k0_pay700, k0_pay701,
      k0_pay702, k0_pay705, k0_pay706, k0_pay707, k0_pay708, k0_pay709, k0_pay710, k0_pay711, k0_pay712, k0_pay713, k0_pay714, k0_pay715, k0_pay716,
      k0_pay717, k0_pay720]
         refine mK _ ?_ ?_ ?_
         · decide
         all_goals
           (refine oK0 _ _ _ _ _ _ ?_ ?_ ?_ ?_ ?_ ?_
            · decide
            · decide
            · exact fun r l h h' => rd2 _ _ r l h h'
            · exact fun r l h h' => rd2 _ _ r l h h'
            all_goals
              (intro r l h h'
               refine rd2d _ _ ?_ r l h h'
               first
               | (with_reducible refine off1 i _ _ ?_ ?_) <;> first | rfl | decide
               | (with_reducible refine off2 i _ _ ?_ ?_) <;> first | rfl | decide
               | (with_reducible refine off3 i _ _ ?_ ?_) <;> first | rfl | decide
               | (with_reducible refine off4 i _ _ ?_ ?_) <;> first | rfl | decide)))
  exact fun p h => absurd h List.not_mem_nil

/-- The stores of the first tile's maxima cover their buffer. -/
theorem cover21 : ∀ y, ∃ p ∈ kernelRun.sl.H21_16 c i M5 M6 M7 M8 M16 M18 M19 M20 f5 f6 f7 f8 f16 f18 f19 f20, y ∈ p.1.set :=
  View.cover_of_tiled _ S8x128.size (by rfl)

end Cert.KernelIdeal.Hand
-- ==== Proof.TileOneScale.lean ====
/-
  The first tile of the quantiser: its scales.
-/
module

public import proofs.«01_k».proof.Proof.TileOneMax

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords)
  (M5 : Memref sig .tc .vmem S1x192 .f32) (M6 : Memref sig .tc .vmem S1x192 .f32) (M7 M8 : Memref sig .tc .vmem S48x2048 .f32)
  (M16 : Memref sig .tc .vmem S384x512 .f32) (M18 M19 : Memref sig .tc .vmem S192x2048 .f32) (M20 : Memref sig .tc .vmem S192x128 .f32)
  (M21 : Memref sig .tc .vmem S128x128 .f32) (M22 : Memref sig .tc .vmem S16x128 .f32)
  (f5 : Bf (F := Ideal) c M5) (f6 : Bf (F := Ideal) c M6) (f7 : Bf (F := Ideal) c M7) (f8 : Bf (F := Ideal) c M8)
  (f16 : Bf (F := Ideal) c M16) (f18 : Bf (F := Ideal) c M18) (f19 : Bf (F := Ideal) c M19) (f20 : Bf (F := Ideal) c M20)

set_option maxHeartbeats 4000000 in
/-- The scales the first tile stores, half 0. -/
theorem pieces10 (OO : Fin 384 → Fin 1024 → EReal) (hO : ∀ r (t : Fin 512) (h : 0 + t.val < 1024), OO r ⟨0 + t.val, h⟩ = (O1 c i M5 M6 M7 M8 M16 M18 M19 M20 f5 f6 f7 f8 f16 f18 f19 f20) r t) :
    ∀ p ∈ kernelRun.sl.H10_8 c i M5 M6 M7 M8 M16 M18 M19 M20 M21 f5 f6 f7 f8 f16 f18 f19 f20, ∀ x : p.1.shape.Idx, p.2 x = sG OO 0 (p.1.emb x) := by
  repeat
    (refine List.forall_mem_cons.2 ⟨?_, ?_⟩
     · refine fun x => sP (hs := ?_) OO (O1 c i M5 M6 M7 M8 M16 M18 M19 M20 f5 f6 f7 f8 f16 f18 f19 f20) 0 0 hO _ ?_ ?_ ?_ x
       · exact (fun j l => aK (O1 c i M5 M6 M7 M8 M16 M18 M19 M20 f5 f6 f7 f8 f16 f18 f19 f20) 0 (fun j l s => by
             fin_cases s <;> exact rcm _ _ 16 (pieces21 c i M5 M6 M7 M8 M16 M18 M19 M20 f5 f6 f7 f8 f16 f18 f19 f20) (cover21 c i M5 M6 M7 M8 M16 M18 M19 M20 f5 f6 f7 f8 f16 f18 f19 f20) j l _) j l)
       all_goals decide)
  exact fun p h => absurd h List.not_mem_nil

set_option maxHeartbeats 4000000 in
/-- The scales the first tile stores, half 1. -/
theorem pieces12 (OO : Fin 384 → Fin 1024 → EReal) (hO : ∀ r (t : Fin 512) (h : 0 + t.val < 1024), OO r ⟨0 + t.val, h⟩ = (O1 c i M5 M6 M7 M8 M16 M18 M19 M20 f5 f6 f7 f8 f16 f18 f19 f20) r t) :
    ∀ p ∈ kernelRun.sl.H12_8 c i M5 M6 M7 M8 M16 M18 M19 M20 M21 f5 f6 f7 f8 f16 f18 f19 f20, ∀ x : p.1.shape.Idx, p.2 x = sG OO 1 (p.1.emb x) := by
  repeat
    (refine List.forall_mem_cons.2 ⟨?_, ?_⟩
     · refine fun x => sP (hs := ?_) OO (O1 c i M5 M6 M7 M8 M16 M18 M19 M20 f5 f6 f7 f8 f16 f18 f19 f20) 1 0 hO _ ?_ ?_ ?_ x
       · exact (fun j l => aK (O1 c i M5 M6 M7 M8 M16 M18 M19 M20 f5 f6 f7 f8 f16 f18 f19 f20) 1 (fun j l s => by
             fin_cases s <;> exact rcm _ _ 16 (pieces21 c i M5 M6 M7 M8 M16 M18 M19 M20 f5 f6 f7 f8 f16 f18 f19 f20) (cover21 c i M5 M6 M7 M8 M16 M18 M19 M20 f5 f6 f7 f8 f16 f18 f19 f20) j l _) j l)
       all_goals decide)
  exact fun p h => absurd h List.not_mem_nil

end Cert.KernelIdeal.Hand
-- ==== Proof.TileOneCode.lean ====
/-
  The first tile of the quantiser: its reciprocals and codes.
-/
module

public import proofs.«01_k».proof.Proof.TileOneScale

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords)
  (M5 : Memref sig .tc .vmem S1x192 .f32) (M6 : Memref sig .tc .vmem S1x192 .f32) (M7 M8 : Memref sig .tc .vmem S48x2048 .f32)
  (M16 : Memref sig .tc .vmem S384x512 .f32) (M18 M19 : Memref sig .tc .vmem S192x2048 .f32) (M20 : Memref sig .tc .vmem S192x128 .f32)
  (M21 : Memref sig .tc .vmem S128x128 .f32) (M22 : Memref sig .tc .vmem S16x128 .f32)
  (f5 : Bf (F := Ideal) c M5) (f6 : Bf (F := Ideal) c M6) (f7 : Bf (F := Ideal) c M7) (f8 : Bf (F := Ideal) c M8)
  (f16 : Bf (F := Ideal) c M16) (f18 : Bf (F := Ideal) c M18) (f19 : Bf (F := Ideal) c M19) (f20 : Bf (F := Ideal) c M20)

set_option maxHeartbeats 4000000 in
/-- The reciprocals the first tile stores. -/
theorem pieces22 : ∀ p ∈ kernelRun.sl.H22_2 c i M5 M6 M7 M8 M16 M18 M19 M20 M21 f5 f6 f7 f8 f16 f18 f19 f20, ∀ x : p.1.shape.Idx,
    p.2 x = arr2 (iO (O1 c i M5 M6 M7 M8 M16 M18 M19 M20 f5 f6 f7 f8 f16 f18 f19 f20)) (p.1.emb x) := by
  refine List.forall_mem_cons.2 ⟨fun x => piece2 (iO (O1 c i M5 M6 M7 M8 M16 M18 M19 M20 f5 f6 f7 f8 f16 f18 f19 f20)) ?_ ?_ x,
    List.forall_mem_cons.2 ⟨fun x => piece2 (iO (O1 c i M5 M6 M7 M8 M16 M18 M19 M20 f5 f6 f7 f8 f16 f18 f19 f20)) ?_ ?_ x, fun p h => absurd h List.not_mem_nil⟩⟩
  · decide
  · refine iP (O1 c i M5 M6 M7 M8 M16 M18 M19 M20 f5 f6 f7 f8 f16 f18 f19 f20) 1 _ ?_ rfl
    exact fun j l => aK (O1 c i M5 M6 M7 M8 M16 M18 M19 M20 f5 f6 f7 f8 f16 f18 f19 f20) 1 (fun j l s => by
      fin_cases s <;> exact rcm _ _ 16 (pieces21 c i M5 M6 M7 M8 M16 M18 M19 M20 f5 f6 f7 f8 f16 f18 f19 f20) (cover21 c i M5 M6 M7 M8 M16 M18 M19 M20 f5 f6 f7 f8 f16 f18 f19 f20) j l _) j l
  · decide
  · refine iP (O1 c i M5 M6 M7 M8 M16 M18 M19 M20 f5 f6 f7 f8 f16 f18 f19 f20) 0 _ ?_ rfl
    exact fun j l => aK (O1 c i M5 M6 M7 M8 M16 M18 M19 M20 f5 f6 f7 f8 f16 f18 f19 f20) 0 (fun j l s => by
      fin_cases s <;> exact rcm _ _ 16 (pieces21 c i M5 M6 M7 M8 M16 M18 M19 M20 f5 f6 f7 f8 f16 f18 f19 f20) (cover21 c i M5 M6 M7 M8 M16 M18 M19 M20 f5 f6 f7 f8 f16 f18 f19 f20) j l _) j l

/-- The stores of the reciprocals cover their buffer. -/
theorem cover22 : ∀ y, ∃ p ∈ kernelRun.sl.H22_2 c i M5 M6 M7 M8 M16 M18 M19 M20 M21 f5 f6 f7 f8 f16 f18 f19 f20, y ∈ p.1.set :=
  View.cover_of_tiled _ S8x128.size (by rfl)

set_option maxHeartbeats 4000000 in
/-- The codes the first tile stores, half 0. -/
theorem pieces9 (OO : Fin 384 → Fin 1024 → EReal) (hO : ∀ r (t : Fin 512) (h : 0 + t.val < 1024), OO r ⟨0 + t.val, h⟩ = (O1 c i M5 M6 M7 M8 M16 M18 M19 M20 f5 f6 f7 f8 f16 f18 f19 f20) r t) :
    ∀ p ∈ kernelRun.sl.H9_8 c i M5 M6 M7 M8 M16 M18 M19 M20 M21 M22 f5 f6 f7 f8 f16 f18 f19 f20, ∀ x : p.1.shape.Idx, p.2 x = cG OO 0 (p.1.emb x) := by
  repeat
    (refine List.forall_mem_cons.2 ⟨?_, ?_⟩
     · refine fun x => cP (l0 := ?_) (a := ?_) (k := ?_) OO (O1 c i M5 M6 M7 M8 M16 M18 M19 M20 f5 f6 f7 f8 f16 f18 f19 f20) 0 0 hO ?_ ?_ ?_ ?_ ?_ x
       rotate_left 4
       · intro r l h h'
         refine rct _ _ 24 ?_ ?_ r l h h'
         · exact pieces16 c i M5 M6 M7 M8 M16 M18 M19 M20 f5 f6 f7 f8 f16 f18 f19 f20
         · exact cover16 c i M5 M6 M7 M8 M16 M18 M19 M20 f5 f6 f7 f8 f16 f18 f19 f20
       · intro r l h h'
         refine rct _ _ 2 ?_ ?_ r l h h'
         · exact pieces22 c i M5 M6 M7 M8 M16 M18 M19 M20 M21 f5 f6 f7 f8 f16 f18 f19 f20
         · exact cover22 c i M5 M6 M7 M8 M16 M18 M19 M20 M21 f5 f6 f7 f8 f16 f18 f19 f20
       all_goals decide)
  exact fun p h => absurd h List.not_mem_nil

set_option maxHeartbeats 4000000 in
/-- The codes the first tile stores, half 1. -/
theorem pieces11 (OO : Fin 384 → Fin 1024 → EReal) (hO : ∀ r (t : Fin 512) (h : 0 + t.val < 1024), OO r ⟨0 + t.val, h⟩ = (O1 c i M5 M6 M7 M8 M16 M18 M19 M20 f5 f6 f7 f8 f16 f18 f19 f20) r t) :
    ∀ p ∈ kernelRun.sl.H11_8 c i M5 M6 M7 M8 M16 M18 M19 M20 M21 M22 f5 f6 f7 f8 f16 f18 f19 f20, ∀ x : p.1.shape.Idx, p.2 x = cG OO 1 (p.1.emb x) := by
  repeat
    (refine List.forall_mem_cons.2 ⟨?_, ?_⟩
     · refine fun x => cP (l0 := ?_) (a := ?_) (k := ?_) OO (O1 c i M5 M6 M7 M8 M16 M18 M19 M20 f5 f6 f7 f8 f16 f18 f19 f20) 1 0 hO ?_ ?_ ?_ ?_ ?_ x
       rotate_left 4
       · intro r l h h'
         refine rct _ _ 24 ?_ ?_ r l h h'
         · exact pieces16 c i M5 M6 M7 M8 M16 M18 M19 M20 f5 f6 f7 f8 f16 f18 f19 f20
         · exact cover16 c i M5 M6 M7 M8 M16 M18 M19 M20 f5 f6 f7 f8 f16 f18 f19 f20
       · intro r l h h'
         refine rct _ _ 2 ?_ ?_ r l h h'
         · exact pieces22 c i M5 M6 M7 M8 M16 M18 M19 M20 M21 f5 f6 f7 f8 f16 f18 f19 f20
         · exact cover22 c i M5 M6 M7 M8 M16 M18 M19 M20 M21 f5 f6 f7 f8 f16 f18 f19 f20
       all_goals decide)
  exact fun p h => absurd h List.not_mem_nil

end Cert.KernelIdeal.Hand
-- ==== Proof.PieceNorm.lean ====
/-
  The stores of the normalised activations, read as one array.
-/
module

public import proofs.«01_k».proof.Proof.RunIdeal
public import proofs.«01_k».proof.Proof.Spec
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- A tile of normalised rows: row `r` of the tile is row `R0 + r` of the block `X`. -/
def hG (X : S1x1024x1024.Idx → EReal) (gm : S1x1024.Idx → EReal) (R0 : ℕ) (hR : R0 ≤ 512) (y : S512x1024.Idx) : EReal :=
  Spec.nrm (fun k => X (ix3 (n0 := 1) (n1 := 1024) (n2 := 1024) 0 ⟨R0 + (y 0).val, by have := (y 0).isLt; dsimp at this; omega⟩ k))
    (fun k => gm (ix2 (n0 := 1) (n1 := 1024) 0 k)) (y 1)

/-- The vector the kernel stores for sixteen rows and one group of 128 columns. -/
abbrev hpv (g : FVec Ideal S1x1024 .f32) (x0 x1 x2 x3 x4 x5 x6 x7 xc : Vec Ideal S1x16x128 .bf16) (c0 : ℕ)
    (hs : S1x1024.Slices ![0, c0] S1x128) : FVec Ideal S16x128 .bf16 :=
  let e (x : Vec Ideal S1x16x128 .bf16) : FVec Ideal S16x128 .f32 := extf .f32 (shapeCast S16x128 x shapeCasts_S1x16x128_S16x128 : FVec Ideal S16x128 .bf16) bitsLt_bf16_f32
  shapeCast S16x128 (truncf .bf16 (mulf (mulf (e xc) (broadcastTo S16x128 (rsqrt (addf (mulf (shapeCast S16x1 (multiReduction .add [1] S16
    (addf (addf (addf (addf (addf (addf (addf (mulf (e x0) (e x0)) (mulf (e x1) (e x1))) (mulf (e x2) (e x2))) (mulf (e x3) (e x3)))
      (mulf (e x4) (e x4))) (mulf (e x5) (e x5))) (mulf (e x6) (e x6))) (mulf (e x7) (e x7)))
    0x00000000#32 reduces_S16x128_S16 (.inl rfl) rfl) shapeCasts_S16_S16x1) (broadcast S16x1 (Scalar.ofBits .f32 0x3A800000#32)))
      (broadcast S16x1 (Scalar.ofBits .f32 0x358637BD#32)))) broadcasts_S16x1_S16x128))
    (broadcastTo S16x128 (extractStridedSlice S1x128 ![0, c0] g hs) broadcasts_S1x128_S16x128)) bitsLt_bf16_f32 : FVec Ideal S16x128 .bf16) shapeCasts_S16x128_S16x128

/-- A sum over 1024 columns as 128 lane sums of eight. -/
theorem sum_chunks (f : Fin 1024 → EReal) :
    ∑ x : Fin 128, (f ⟨0 + x.val, by omega⟩ + f ⟨128 + x.val, by omega⟩ + f ⟨256 + x.val, by omega⟩ + f ⟨384 + x.val, by omega⟩
      + f ⟨512 + x.val, by omega⟩ + f ⟨640 + x.val, by omega⟩ + f ⟨768 + x.val, by omega⟩ + f ⟨896 + x.val, by omega⟩) = ∑ k, f k := by
  have e : ∑ k, f k = ∑ c : Fin 8, ∑ x : Fin 128, f ⟨c.val * 128 + x.val, by omega⟩ := by
    rw [← Fintype.sum_prod_type' (f := fun (c : Fin 8) (x : Fin 128) => f ⟨c.val * 128 + x.val, by omega⟩)]
    refine (Equiv.sum_comp (finProdFinEquiv (m := 8) (n := 128)) f).symm.trans (Finset.sum_congr rfl fun p _ => congrArg f ?_)
    ext
    show p.2.val + 128 * p.1.val = p.1.val * 128 + p.2.val
    ring
  rw [e, Fin.sum_univ_eight]
  simp only [Finset.sum_add_distrib]
  rfl

/-- One store of normalised activations is its rows and columns of the tile. -/
theorem hpiece {c : Dev nD} (M1 : Memref sig .tc .vmem S1x1024x1024 .bf16) (f1 : Bf (F := Ideal) c M1) (g : FVec Ideal S1x1024 .f32)
    (R0 : ℕ) (hR : R0 ≤ 512) {r0 c0 R : ℕ} {inb : ∀ a, (![r0, c0] : Fin 2 → ℕ) a + S16x128.size a ≤ S512x1024.size a}
    {hs : S1x1024.Slices ![0, c0] S1x128}
    {i0 : ∀ a, (![0, R, 0] : Fin 3 → ℕ) a + S1x16x128.size a ≤ S1x1024x1024.size a}
    {i1 : ∀ a, (![0, R, 128] : Fin 3 → ℕ) a + S1x16x128.size a ≤ S1x1024x1024.size a}
    {i2 : ∀ a, (![0, R, 256] : Fin 3 → ℕ) a + S1x16x128.size a ≤ S1x1024x1024.size a}
    {i3 : ∀ a, (![0, R, 384] : Fin 3 → ℕ) a + S1x16x128.size a ≤ S1x1024x1024.size a}
    {i4 : ∀ a, (![0, R, 512] : Fin 3 → ℕ) a + S1x16x128.size a ≤ S1x1024x1024.size a}
    {i5 : ∀ a, (![0, R, 640] : Fin 3 → ℕ) a + S1x16x128.size a ≤ S1x1024x1024.size a}
    {i6 : ∀ a, (![0, R, 768] : Fin 3 → ℕ) a + S1x16x128.size a ≤ S1x1024x1024.size a}
    {i7 : ∀ a, (![0, R, 896] : Fin 3 → ℕ) a + S1x16x128.size a ≤ S1x1024x1024.size a}
    {ic : ∀ a, (![0, R, c0] : Fin 3 → ℕ) a + S1x16x128.size a ≤ S1x1024x1024.size a}
    (hRow : R = R0 + r0) (x : S16x128.Idx) :
    hpv g (View.readAt (Elt Ideal) M1.view (Rect.unit (s := S1x1024x1024) ![0, R, 0] S1x16x128.size i0).toLoadRect f1)
        (View.readAt (Elt Ideal) M1.view (Rect.unit (s := S1x1024x1024) ![0, R, 128] S1x16x128.size i1).toLoadRect f1)
        (View.readAt (Elt Ideal) M1.view (Rect.unit (s := S1x1024x1024) ![0, R, 256] S1x16x128.size i2).toLoadRect f1)
        (View.readAt (Elt Ideal) M1.view (Rect.unit (s := S1x1024x1024) ![0, R, 384] S1x16x128.size i3).toLoadRect f1)
        (View.readAt (Elt Ideal) M1.view (Rect.unit (s := S1x1024x1024) ![0, R, 512] S1x16x128.size i4).toLoadRect f1)
        (View.readAt (Elt Ideal) M1.view (Rect.unit (s := S1x1024x1024) ![0, R, 640] S1x16x128.size i5).toLoadRect f1)
        (View.readAt (Elt Ideal) M1.view (Rect.unit (s := S1x1024x1024) ![0, R, 768] S1x16x128.size i6).toLoadRect f1)
        (View.readAt (Elt Ideal) M1.view (Rect.unit (s := S1x1024x1024) ![0, R, 896] S1x16x128.size i7).toLoadRect f1)
        (View.readAt (Elt Ideal) M1.view (Rect.unit (s := S1x1024x1024) ![0, R, c0] S1x16x128.size ic).toLoadRect f1) c0 hs x
      = hG (M1.view.read (Elt Ideal) f1) g R0 hR ((Rect.unit (s := S512x1024) ![r0, c0] S16x128.size inb).emb x) := by
  subst hRow
  have key : ∀ (d : ℕ) (id : ∀ a, (![0, R0 + r0, d] : Fin 3 → ℕ) a + S1x16x128.size a ≤ S1x1024x1024.size a) (r : Fin 16) (l : Fin 128)
      (hr : R0 + (r0 + r.val) < 1024) (hd : d + l.val < 1024),
      View.readAt (Elt Ideal) M1.view (Rect.unit (s := S1x1024x1024) ![0, R0 + r0, d] S1x16x128.size id).toLoadRect f1 (ix3 0 r l)
        = M1.view.read (Elt Ideal) f1 (ix3 0 ⟨R0 + (r0 + r.val), hr⟩ ⟨d + l.val, hd⟩) := by
    intro d id r l hr hd
    refine congrArg (M1.view.read (Elt Ideal) f1) ?_
    funext a
    fin_cases a <;> ext <;> simp [LoadRect.idx, Rect.unit, Rect.toLoadRect] <;> omega
  have h0 := inb 0
  have h1 := inb 1
  simp at h0 h1
  idx_vars x
  pointwise [hpv]
  have e : (Rect.unit (s := S512x1024) ![r0, c0] ![16, 128] inb).emb (ix2 x0 x1) = ix2 ⟨r0 + x0.val, by omega⟩ ⟨c0 + x1.val, by omega⟩ := by
    funext a
    refine Fin.ext ((Rect.emb_apply _ _ a).trans ?_)
    fin_cases a <;> simp [Rect.unit]
  rw [e, key c0 ic x0 x1 (by omega) (by omega)]
  simp only [fun x => key 0 i0 x0 x (by omega) (by omega), fun x => key 128 i1 x0 x (by omega) (by omega),
    fun x => key 256 i2 x0 x (by omega) (by omega), fun x => key 384 i3 x0 x (by omega) (by omega),
    fun x => key 512 i4 x0 x (by omega) (by omega), fun x => key 640 i5 x0 x (by omega) (by omega),
    fun x => key 768 i6 x0 x (by omega) (by omega), fun x => key 896 i7 x0 x (by omega) (by omega)]
  unfold hG Spec.nrm
  rw [← sum_chunks]
  rfl

/-- The box of the whole array reads every element at its own index. -/
theorem idx_unit_whole {s : Shape} (off : Fin s.rank → ℕ) (h0 : ∀ a, off a = 0) (h : ∀ a, off a + s.size a ≤ s.size a) (j : s.Idx) :
    (Rect.unit (s := s) off s.size h).toLoadRect.idx j = j := by
  funext a
  exact Fin.ext (by rw [Spec.unit_idx_val]; simp [h0])

/-- The gain the kernel loads. -/
theorem r_67_eq (c : Dev nD) (M2 : Memref sig .tc .vmem S1x1024 .f32) (f2 : Bf (F := Ideal) c M2) :
    kernelRun.sl.r_67 c M2 f2 = M2.view.read (Elt Ideal) f2 := by
  funext j
  rw [kernelRun.sl.r_67, k0_pay247]
  refine (congrFun (shapeCast_self _ _) j).trans ?_
  exact congrArg (M2.view.read (Elt Ideal) f2) (idx_unit_whole (s := S1x1024) ![0, 0] (by decide) _ j)

set_option maxHeartbeats 8000000 in
/-- The first tile of normalised rows: every store is its rows and columns of the tile. -/
theorem pieces14 (c : Dev nD) (M1 : Memref sig .tc .vmem S1x1024x1024 .bf16) (M2 : Memref sig .tc .vmem S1x1024 .f32)
    (f1 : Bf (F := Ideal) c M1) (f2 : Bf (F := Ideal) c M2) :
    ∀ p ∈ kernelRun.sl.H14_256 c M1 M2 f1 f2, ∀ x,
      p.2 x = hG (M1.view.read (Elt Ideal) f1) (kernelRun.sl.r_67 c M2 f2) 0 (by omega) (p.1.emb x) := by
  repeat (refine List.forall_mem_cons.2 ⟨?_, ?_⟩; (· refine fun x => hpiece (inb := ?_) (hs := ?_) M1 f1 (kernelRun.sl.r_67 c M2 f2) 0 _ ?_ x <;> first | rfl | decide))
  exact fun p h => absurd h (by simp)

/-- So the buffer reads as the tile. -/
theorem read14 (c : Dev nD) (M1 : Memref sig .tc .vmem S1x1024x1024 .bf16) (M2 : Memref sig .tc .vmem S1x1024 .f32)
    (M : Memref sig .tc .vmem S512x1024 .bf16) (f1 : Bf (F := Ideal) c M1) (f2 : Bf (F := Ideal) c M2) (f) (y) :
    M.view.read (Elt Ideal) (M.view.writes (Elt Ideal) f (kernelRun.sl.H14_256 c M1 M2 f1 f2)) y
      = hG (M1.view.read (Elt Ideal) f1) (M2.view.read (Elt Ideal) f2) 0 (by omega) y := by
  rw [View.read_writes_apply_of_pieces M.view f _ _ (pieces14 c M1 M2 f1 f2) y
    (View.cover_of_tiled (kernelRun.sl.H14_256 c M1 M2 f1 f2) S16x128.size (by rfl) y), r_67_eq]

set_option maxHeartbeats 8000000 in
/-- The second tile of normalised rows: every store is its rows and columns of the tile. -/
theorem pieces15 (c : Dev nD) (M1 : Memref sig .tc .vmem S1x1024x1024 .bf16) (M2 : Memref sig .tc .vmem S1x1024 .f32)
    (f1 : Bf (F := Ideal) c M1) (f2 : Bf (F := Ideal) c M2) :
    ∀ p ∈ kernelRun.sl.H15_256 c M1 M2 f1 f2, ∀ x,
      p.2 x = hG (M1.view.read (Elt Ideal) f1) (kernelRun.sl.r_67 c M2 f2) 512 (by omega) (p.1.emb x) := by
  repeat (refine List.forall_mem_cons.2 ⟨?_, ?_⟩; (· refine fun x => hpiece (inb := ?_) (hs := ?_) M1 f1 (kernelRun.sl.r_67 c M2 f2) 512 _ ?_ x <;> first | rfl | decide))
  exact fun p h => absurd h (by simp)

/-- So the buffer reads as the tile. -/
theorem read15 (c : Dev nD) (M1 : Memref sig .tc .vmem S1x1024x1024 .bf16) (M2 : Memref sig .tc .vmem S1x1024 .f32)
    (M : Memref sig .tc .vmem S512x1024 .bf16) (f1 : Bf (F := Ideal) c M1) (f2 : Bf (F := Ideal) c M2) (f) (y) :
    M.view.read (Elt Ideal) (M.view.writes (Elt Ideal) f (kernelRun.sl.H15_256 c M1 M2 f1 f2)) y
      = hG (M1.view.read (Elt Ideal) f1) (M2.view.read (Elt Ideal) f2) 512 (by omega) y := by
  rw [View.read_writes_apply_of_pieces M.view f _ _ (pieces15 c M1 M2 f1 f2) y
    (View.cover_of_tiled (kernelRun.sl.H15_256 c M1 M2 f1 f2) S16x128.size (by rfl) y), r_67_eq]

end Cert.KernelIdeal.Hand
-- ==== Proof.Tables.lean ====
/-
  What the body's preamble leaves in the scratch it carries: the weights, the two rotation tables with the key scales
  folded in, and the value scales. And the matrix product.
-/
module

public import proofs.«01_k».proof.Proof.Carried
public import proofs.«01_k».proof.Proof.PieceQuant
public import proofs.«01_k».proof.Proof.PieceNorm

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The cosine table: the key's scale times the cosine of its row's frequency. -/
def tA (s : Fin 192 → EReal) (cs : Fin 48 → Fin 2048 → EReal) (r : Fin 192) (t : Fin 2048) : EReal := s r * cs ⟨r.val % 48, by omega⟩ t

/-- The sine table: the partner row's scale times the sine, negated for the first half of a head. -/
def tB (s : Fin 192 → EReal) (sn : Fin 48 → Fin 2048 → EReal) (r : Fin 192) (t : Fin 2048) : EReal :=
  if h : r.val % 96 < 48 then Ideal.ofBits .f32 0x00000000#32 - s ⟨r.val + 48, by omega⟩ * sn ⟨r.val % 48, by omega⟩ t
  else s ⟨r.val - 48, by omega⟩ * sn ⟨r.val % 48, by omega⟩ t

section pieces

variable (s : Fin 192 → EReal) (cs : Fin 48 → Fin 2048 → EReal)

/-- A stored piece of the cosine table. -/
theorem tAp {b l0 : ℕ} {a cv : FVec Ideal S48x128 .f32} (hb : b % 48 = 0)
    (ha : ∀ (r : Fin 48) (l : Fin 128) (h : b + r.val < 192), a (ix2 r l) = s ⟨b + r.val, h⟩)
    (hc : ∀ (r : Fin 48) (l : Fin 128) (h : l0 + l.val < 2048), cv (ix2 r l) = cs r ⟨l0 + l.val, h⟩)
    (r : Fin 48) (l : Fin 128) (h : b + r.val < 192) (h' : l0 + l.val < 2048) :
    (shapeCast S48x128 (mulf a cv) shapeCasts_S48x128_S48x128 : FVec Ideal S48x128 .f32) (ix2 r l) = tA s cs ⟨b + r.val, h⟩ ⟨l0 + l.val, h'⟩ := by
  rw [shapeCast_self]
  show a (ix2 r l) * cv (ix2 r l) = _
  rw [ha r l h, hc r l h']
  unfold tA
  congr 2
  exact Fin.ext (by dsimp; have := r.isLt; omega)

/-- A stored piece of the sine table, second half of a head. -/
theorem tBp {b l0 : ℕ} {a cv : FVec Ideal S48x128 .f32} (hb : b % 96 = 48)
    (ha : ∀ (r : Fin 48) (l : Fin 128) (h : b - 48 + r.val < 192), a (ix2 r l) = s ⟨b - 48 + r.val, h⟩)
    (hc : ∀ (r : Fin 48) (l : Fin 128) (h : l0 + l.val < 2048), cv (ix2 r l) = cs r ⟨l0 + l.val, h⟩)
    (r : Fin 48) (l : Fin 128) (h : b + r.val < 192) (h' : l0 + l.val < 2048) :
    (shapeCast S48x128 (mulf a cv) shapeCasts_S48x128_S48x128 : FVec Ideal S48x128 .f32) (ix2 r l) = tB s cs ⟨b + r.val, h⟩ ⟨l0 + l.val, h'⟩ := by
  have hr := r.isLt
  rw [shapeCast_self]
  show a (ix2 r l) * cv (ix2 r l) = _
  rw [ha r l (by omega), hc r l h']
  unfold tB
  rw [dif_neg (by dsimp; omega)]
  congr 2
  · exact Fin.ext (by dsimp; omega)
  · exact Fin.ext (by dsimp; omega)

/-- A stored piece of the sine table, first half of a head. -/
theorem tBn {b l0 : ℕ} {a cv : FVec Ideal S48x128 .f32} (hb : b % 96 = 0)
    (ha : ∀ (r : Fin 48) (l : Fin 128) (h : b + 48 + r.val < 192), a (ix2 r l) = s ⟨b + 48 + r.val, h⟩)
    (hc : ∀ (r : Fin 48) (l : Fin 128) (h : l0 + l.val < 2048), cv (ix2 r l) = cs r ⟨l0 + l.val, h⟩)
    (r : Fin 48) (l : Fin 128) (h : b + r.val < 192) (h' : l0 + l.val < 2048) :
    (shapeCast S48x128 (subf (broadcast S48x128 (Scalar.ofBits .f32 0x00000000#32)) (mulf a cv)) shapeCasts_S48x128_S48x128 : FVec Ideal S48x128 .f32) (ix2 r l)
      = tB s cs ⟨b + r.val, h⟩ ⟨l0 + l.val, h'⟩ := by
  have hr := r.isLt
  rw [shapeCast_self]
  show Ideal.ofBits .f32 0x00000000#32 - a (ix2 r l) * cv (ix2 r l) = _
  rw [ha r l (by omega), hc r l h']
  unfold tB
  rw [dif_pos (by dsimp; omega)]
  congr 3
  · exact Fin.ext (by dsimp; omega)
  · exact Fin.ext (by dsimp; omega)

end pieces

/-- The scales as a column, repeated along the lanes. -/
theorem pay4_apply (v : Vec Ideal S1x192 .f32) (r : Fin 192) (l : Fin 128) : k0_pay4 (F := Ideal) v (ix2 r l) = v (ix2 (n0 := 1) 0 r) := by
  pointwise [k0_pay4]

/-- Forty-eight of them. -/
theorem pay4_slice {c : Dev nD} (M5 : Memref sig .tc .vmem S1x192 .f32) (f5 : Bf (F := Ideal) c M5) {b : ℕ} {inb}
    {hs : S192x128.Slices ![b, 0] S48x128} (r : Fin 48) (l : Fin 128) (h : b + r.val < 192) :
    (extractStridedSlice S48x128 ![b, 0] (k0_pay4 (F := Ideal) (View.readAt (Elt Ideal) M5.view (Rect.unit (s := S1x192) ![0, 0] S1x192.size inb).toLoadRect f5)) hs
      : FVec Ideal S48x128 .f32) (ix2 r l) = M5.view.read (Elt Ideal) f5 (ix2 (n0 := 1) (n1 := 192) 0 ⟨b + r.val, h⟩) := by
  have e : (extractStridedSlice S48x128 ![b, 0] (k0_pay4 (F := Ideal) (View.readAt (Elt Ideal) M5.view (Rect.unit (s := S1x192) ![0, 0] S1x192.size inb).toLoadRect f5)) hs
      : FVec Ideal S48x128 .f32) (ix2 r l) = k0_pay4 (F := Ideal) (View.readAt (Elt Ideal) M5.view (Rect.unit (s := S1x192) ![0, 0] S1x192.size inb).toLoadRect f5) (ix2 ⟨b + r.val, h⟩ l) := by
    show k0_pay4 (F := Ideal) _ _ = _
    congr 1
    funext i
    refine Fin.ext ?_
    fin_cases i
    · rfl
    · show 0 + l.val = l.val
      omega
  rw [e, pay4_apply]
  refine (rd2 M5.view f5 (a := 0) (b := 0) (n0 := 1) (n1 := 192) 0 ⟨b + r.val, h⟩ (by decide) (by dsimp; omega)).trans ?_
  congr 2
  exact Fin.ext (by dsimp; omega)

/-- A cast to the same shape changes nothing. -/
theorem sc_self {s : Shape} {φ : FTy} (v : FVec Ideal s φ) (h : s.ShapeCasts s) (j : s.Idx) : (shapeCast s v h : FVec Ideal s φ) j = v j := by
  rw [shapeCast_self]

/-- Columns of the cosines or sines. -/
theorem cs_piece {c : Dev nD} (M7 : Memref sig .tc .vmem S48x2048 .f32) (f7 : Bf (F := Ideal) c M7) {l0 : ℕ} {inb}
    (r : Fin 48) (l : Fin 128) (h : l0 + l.val < 2048) :
    (shapeCast S48x128 (View.readAt (Elt Ideal) M7.view (Rect.unit (s := S48x2048) ![0, l0] S48x128.size inb).toLoadRect f7) shapeCasts_S48x128_S48x128
      : FVec Ideal S48x128 .f32) (ix2 r l) = M7.view.read (Elt Ideal) f7 (ix2 (n0 := 48) (n1 := 2048) r ⟨l0 + l.val, h⟩) := by
  refine (sc_self _ _ _).trans ?_
  refine (rd2 M7.view f7 (a := 0) (n0 := 48) (n1 := 128) r l (by have := r.isLt; omega) h).trans ?_
  congr 2
  exact Fin.ext (by dsimp; omega)

variable (c : Dev nD) (M5 : Memref sig .tc .vmem S1x192 .f32) (M7 : Memref sig .tc .vmem S48x2048 .f32)
  (f5 : Bf (F := Ideal) c M5) (f7 : Bf (F := Ideal) c M7)

/-- The scales a one-row buffer holds. -/
abbrev rowOf {n : ℕ} (v : (⟨2, ![1, n]⟩ : Shape).Idx → EReal) (r : Fin n) : EReal := v (ix2 (n0 := 1) 0 r)
/-- A buffer of two axes as a function of the two coordinates. -/
abbrev tabOf {m n : ℕ} (v : (⟨2, ![m, n]⟩ : Shape).Idx → EReal) (r : Fin m) (t : Fin n) : EReal := v (ix2 r t)

set_option maxHeartbeats 4000000 in
/-- Every store into the cosine table is its part of the table. -/
theorem pieces18 : ∀ p ∈ L18 c M5 M7 f5 f7, ∀ x : p.1.shape.Idx,
    p.2 x = arr2 (tA (rowOf (M5.view.read (Elt Ideal) f5)) (tabOf (M7.view.read (Elt Ideal) f7))) (p.1.emb x) := by
  repeat
    (refine List.forall_mem_cons.2 ⟨?_, ?_⟩
     · refine fun x => piece2 (tA (rowOf (M5.view.read (Elt Ideal) f5)) (tabOf (M7.view.read (Elt Ideal) f7))) ?_ ?_ x
       · decide
       · refine tAp _ _ ?_ ?_ ?_
         · decide
         · exact fun r l h => pay4_slice (hs := by decide) M5 f5 r l h
         · exact fun r l h => cs_piece M7 f7 r l h)
  exact fun p h => absurd h List.not_mem_nil

set_option maxHeartbeats 4000000 in
/-- Every store into the sine table is its part of the table. -/
theorem pieces19 : ∀ p ∈ L19 c M5 M7 f5 f7, ∀ x : p.1.shape.Idx,
    p.2 x = arr2 (tB (rowOf (M5.view.read (Elt Ideal) f5)) (tabOf (M7.view.read (Elt Ideal) f7))) (p.1.emb x) := by
  iterate 32
    (refine List.forall_mem_cons.2 ⟨?_, ?_⟩
     · refine fun x => piece2 (tB (rowOf (M5.view.read (Elt Ideal) f5)) (tabOf (M7.view.read (Elt Ideal) f7))) ?_ ?_ x
       · decide
       · refine tBp _ _ ?_ ?_ ?_
         · decide
         · exact fun r l h => pay4_slice (hs := by decide) M5 f5 r l h
         · exact fun r l h => cs_piece M7 f7 r l h
     refine List.forall_mem_cons.2 ⟨?_, ?_⟩
     · refine fun x => piece2 (tB (rowOf (M5.view.read (Elt Ideal) f5)) (tabOf (M7.view.read (Elt Ideal) f7))) ?_ ?_ x
       · decide
       · refine tBn _ _ ?_ ?_ ?_
         · decide
         · exact fun r l h => pay4_slice (hs := by decide) M5 f5 r l h
         · exact fun r l h => cs_piece M7 f7 r l h)
  exact fun p h => absurd h List.not_mem_nil

/-- The cosine table, read. -/
theorem read18 (M : Memref sig .tc .vmem S192x2048 .f32) (f) (y) :
    M.view.read (Elt Ideal) (M.view.writes (Elt Ideal) f (L18 c M5 M7 f5 f7)) y
      = arr2 (tA (rowOf (M5.view.read (Elt Ideal) f5)) (tabOf (M7.view.read (Elt Ideal) f7))) y :=
  View.read_writes_apply_of_pieces M.view f _ _ (pieces18 c M5 M7 f5 f7) y (View.cover_of_tiled (L18 c M5 M7 f5 f7) S48x128.size (by rfl) y)

/-- The sine table, read. -/
theorem read19 (M : Memref sig .tc .vmem S192x2048 .f32) (f) (y) :
    M.view.read (Elt Ideal) (M.view.writes (Elt Ideal) f (L19 c M5 M7 f5 f7)) y
      = arr2 (tB (rowOf (M5.view.read (Elt Ideal) f5)) (tabOf (M7.view.read (Elt Ideal) f7))) y :=
  View.read_writes_apply_of_pieces M.view f _ _ (pieces19 c M5 M7 f5 f7) y (View.cover_of_tiled (L19 c M5 M7 f5 f7) S48x128.size (by rfl) y)

/-- Both weights, one over the other. -/
def wG (a b : S192x1024.Idx → EReal) (r : Fin 384) (k : Fin 1024) : EReal :=
  if h : r.val < 192 then a (ix2 (n0 := 192) ⟨r.val, h⟩ k) else b (ix2 (n0 := 192) ⟨r.val - 192, by omega⟩ k)

/-- The weights, read. -/
theorem read13 (M3 M4 : Memref sig .tc .vmem S192x1024 .fp8e4m3) (f3 : Bf (F := Ideal) c M3) (f4 : Bf (F := Ideal) c M4)
    (M : Memref sig .tc .vmem S384x1024 .bf16) (f) (y) :
    M.view.read (Elt Ideal) (M.view.writes (Elt Ideal) f (kernelRun.sl.H13_2 c M3 M4 f3 f4)) y
      = arr2 (wG (M3.view.read (Elt Ideal) f3) (M4.view.read (Elt Ideal) f4)) y := by
  refine View.read_writes_apply_of_pieces M.view f _ _ ?_ y (View.cover_of_tiled (kernelRun.sl.H13_2 c M3 M4 f3 f4) S192x1024.size (by rfl) y)
  refine List.forall_mem_cons.2 ⟨fun x => piece2 (wG (M3.view.read (Elt Ideal) f3) (M4.view.read (Elt Ideal) f4)) ?_ ?_ x,
    List.forall_mem_cons.2 ⟨fun x => piece2 (wG (M3.view.read (Elt Ideal) f3) (M4.view.read (Elt Ideal) f4)) ?_ ?_ x, fun p h => absurd h List.not_mem_nil⟩⟩
  · decide
  · intro r l h h'
    have e : ∀ v : Vec Ideal S192x1024 .fp8e4m3, k0_pay3 (F := Ideal) v (ix2 r l) = v (ix2 r l) := fun v => by
      unfold k0_pay3; rw [shapeCast_self, shapeCast_self]; rfl
    dsimp only
    rw [e]
    refine (rd2 M4.view f4 (a := 0) (b := 0) (n0 := 192) (n1 := 1024) r l (by have := r.isLt; omega) (by have := l.isLt; omega)).trans ?_
    unfold wG
    rw [dif_neg (by dsimp; omega)]
    congr 2
    exact Fin.ext (by dsimp; omega)
  · decide
  · intro r l h h'
    have e : ∀ v : Vec Ideal S192x1024 .fp8e4m3, k0_pay2 (F := Ideal) v (ix2 r l) = v (ix2 r l) := fun v => by
      unfold k0_pay2; rw [shapeCast_self, shapeCast_self]; rfl
    dsimp only
    rw [e]
    refine (rd2 M3.view f3 (a := 0) (b := 0) (n0 := 192) (n1 := 1024) r l (by have := r.isLt; omega) (by have := l.isLt; omega)).trans ?_
    unfold wG
    rw [dif_pos (by dsimp; have := r.isLt; omega)]

/-- The value scales, read. -/
theorem read20 (M6 : Memref sig .tc .vmem S1x192 .f32) (f6 : Bf (F := Ideal) c M6) (M : Memref sig .tc .vmem S192x128 .f32) (f) (y) :
    M.view.read (Elt Ideal) (M.view.writes (Elt Ideal) f (kernelRun.sl.H20_1 c M6 f6)) y
      = arr2 (fun (r : Fin 192) (_ : Fin 128) => rowOf (M6.view.read (Elt Ideal) f6) r) y := by
  refine View.read_writes_apply_of_pieces M.view f _ _ ?_ y (View.cover_of_tiled (kernelRun.sl.H20_1 c M6 f6) S192x128.size (by rfl) y)
  refine List.forall_mem_cons.2 ⟨fun x => piece2 (fun (r : Fin 192) (_ : Fin 128) => rowOf (M6.view.read (Elt Ideal) f6) r) ?_ ?_ x, fun p h => absurd h List.not_mem_nil⟩
  · decide
  · intro r l h h'
    have e : ∀ v : Vec Ideal S1x192 .f32, k0_pay5 (F := Ideal) v (ix2 r l) = v (ix2 (n0 := 1) 0 r) := fun v => by
      pointwise [k0_pay5]
    dsimp only
    rw [e]
    refine (rd2 M6.view f6 (a := 0) (b := 0) (n0 := 1) (n1 := 192) 0 r (by decide) (by have := r.isLt; omega)).trans ?_
    congr 2

/-- The product of the weights with a tile of normalised rows. -/
def dotG (w : S384x1024.Idx → EReal) (h : S512x1024.Idx → EReal) (r : Fin 384) (t : Fin 512) : EReal :=
  ∑ k : Fin 1024, w (ix2 r k) * h (ix2 t k)

/-- The body's first product is that, -/
theorem pay648_apply (w : Vec Ideal S384x1024 .bf16) (h : Vec Ideal S512x1024 .bf16) (r : Fin 384) (t : Fin 512) :
    k0_pay648 (F := Ideal) w h (ix2 r t) = dotG w h r t := by
  unfold dotG
  pointwise [k0_pay648]

/-- and so is its second. -/
theorem pay1235_apply (w : Vec Ideal S384x1024 .bf16) (h : Vec Ideal S512x1024 .bf16) (r : Fin 384) (t : Fin 512) :
    k0_pay1235 (F := Ideal) w h (ix2 r t) = dotG w h r t := by
  unfold dotG
  pointwise [k0_pay1235]

end Cert.KernelIdeal.Hand
-- ==== Proof.BodyValue.lean ====
/-
  What one run of the body leaves, as a function of what it finds: the codes and scales of the previous block from the
  carried products and rows, and the products and rows of the point's own block.
-/
module

public import proofs.«01_k».proof.Proof.TileTwoCode
public import proofs.«01_k».proof.Proof.TileOneCode
public import proofs.«01_k».proof.Proof.Tables
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- What the body works from: the weights, the second half of the previous block normalised, the products of its first
    half, the two tables and the value scales. -/
structure St where
  w : S384x1024.Idx → EReal
  h : S512x1024.Idx → EReal
  a : S384x512.Idx → EReal
  ta : S192x2048.Idx → EReal
  tb : S192x2048.Idx → EReal
  sv : S192x128.Idx → EReal

/-- The rotated rows of the previous block. -/
def St.rows (E : St) (pos : ℕ) (hp : pos ≤ 1024) (r : Fin 384) (t : Fin 1024) : EReal :=
  if h : t.val < 512 then oG E.a E.ta E.tb E.sv pos (by omega) r ⟨t.val, h⟩
  else oG (arr2 (dotG E.w E.h)) E.ta E.tb E.sv (pos + 512) (by omega) r ⟨t.val - 512, by omega⟩

section
variable (c : Dev nD) (i : grid0.Coords)
    (M1 : Memref sig .tc .vmem S1x1024x1024 .bf16) (h1 : M1.IsWhole)
    (M2 : Memref sig .tc .vmem S1x1024 .f32) (h2 : M2.IsWhole)
    (M3 : Memref sig .tc .vmem S192x1024 .fp8e4m3) (h3 : M3.IsWhole)
    (M4 : Memref sig .tc .vmem S192x1024 .fp8e4m3) (h4 : M4.IsWhole)
    (M5 : Memref sig .tc .vmem S1x192 .f32) (h5 : M5.IsWhole)
    (M6 : Memref sig .tc .vmem S1x192 .f32) (h6 : M6.IsWhole)
    (M7 : Memref sig .tc .vmem S48x2048 .f32) (h7 : M7.IsWhole)
    (M8 : Memref sig .tc .vmem S48x2048 .f32) (h8 : M8.IsWhole)
    (M9 : Memref sig .tc .vmem S1x192x1024 .fp8e4m3) (h9 : M9.IsWhole)
    (M10 : Memref sig .tc .vmem S1x2x1024 .f32) (h10 : M10.IsWhole)
    (M11 : Memref sig .tc .vmem S1x192x1024 .fp8e4m3) (h11 : M11.IsWhole)
    (M12 : Memref sig .tc .vmem S1x2x1024 .f32) (h12 : M12.IsWhole)
    (M13 : Memref sig .tc .vmem S384x1024 .bf16) (h13 : M13.IsWhole)
    (M14 : Memref sig .tc .vmem S512x1024 .bf16) (h14 : M14.IsWhole)
    (M15 : Memref sig .tc .vmem S512x1024 .bf16) (h15 : M15.IsWhole)
    (M16 : Memref sig .tc .vmem S384x512 .f32) (h16 : M16.IsWhole)
    (M17 : Memref sig .tc .vmem S384x512 .f32) (h17 : M17.IsWhole)
    (M18 : Memref sig .tc .vmem S192x2048 .f32) (h18 : M18.IsWhole)
    (M19 : Memref sig .tc .vmem S192x2048 .f32) (h19 : M19.IsWhole)
    (M20 : Memref sig .tc .vmem S192x128 .f32) (h20 : M20.IsWhole)
    (M21 : Memref sig .tc .vmem S128x128 .f32) (h21 : M21.IsWhole)
    (M22 : Memref sig .tc .vmem S16x128 .f32) (h22 : M22.IsWhole)
    (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8) (f13 : Bf (F := Ideal) c M13) (f15 : Bf (F := Ideal) c M15) (f16 : Bf (F := Ideal) c M16) (f18 : Bf (F := Ideal) c M18) (f19 : Bf (F := Ideal) c M19) (f20 : Bf (F := Ideal) c M20)

/-- What the run leaves, read. -/
structure Vals (E : St) (W : Bf (F := Ideal) c M9 × Bf (F := Ideal) c M10 × Bf (F := Ideal) c M11 × Bf (F := Ideal) c M12 × Bf (F := Ideal) c M13
    × Bf (F := Ideal) c M15 × Bf (F := Ideal) c M16 × Bf (F := Ideal) c M18 × Bf (F := Ideal) c M19 × Bf (F := Ideal) c M20) : Prop where
  v9 : M9.view.read (Elt Ideal) W.1 = cG (E.rows (posn i) (posn_le i)) 0
  v10 : M10.view.read (Elt Ideal) W.2.1 = sG (E.rows (posn i) (posn_le i)) 0
  v11 : M11.view.read (Elt Ideal) W.2.2.1 = cG (E.rows (posn i) (posn_le i)) 1
  v12 : M12.view.read (Elt Ideal) W.2.2.2.1 = sG (E.rows (posn i) (posn_le i)) 1
  v13 : M13.view.read (Elt Ideal) W.2.2.2.2.1 = E.w
  v15 : M15.view.read (Elt Ideal) W.2.2.2.2.2.1 = hG (M1.view.read (Elt Ideal) f1) (M2.view.read (Elt Ideal) f2) 512 (by omega)
  v16 : M16.view.read (Elt Ideal) W.2.2.2.2.2.2.1 = arr2 (dotG E.w (hG (M1.view.read (Elt Ideal) f1) (M2.view.read (Elt Ideal) f2) 0 (by omega)))
  v18 : M18.view.read (Elt Ideal) W.2.2.2.2.2.2.2.1 = E.ta
  v19 : M19.view.read (Elt Ideal) W.2.2.2.2.2.2.2.2.1 = E.tb
  v20 : M20.view.read (Elt Ideal) W.2.2.2.2.2.2.2.2.2 = E.sv

/-- A buffer read whole. -/
theorem read_whole {sp : Space} {n0 n1 : ℕ} {e : EltTy}(v : View sig .tc sp ⟨2, ![n0, n1]⟩ e) (f) {inb} :
    View.readAt (Elt Ideal) v (Rect.unit (s := ⟨2, ![n0, n1]⟩) ![0, 0] ![n0, n1] inb).toLoadRect f = v.read (Elt Ideal) f := by
  funext y
  rw [← ix2_eta y]
  refine (rd2 v f (a := 0) (b := 0) (n0 := n0) (n1 := n1) (y 0) (y 1) (by have := (y 0).isLt; dsimp at this; omega) (by have := (y 1).isLt; dsimp at this; omega)).trans ?_
  congr 2 <;> exact Fin.ext (by dsimp; omega)

/-- A buffer whose last write covers it reads as that write. -/
theorem read_head {sp : Space} {n0 n1 : ℕ} {e : EltTy} (v : View sig .tc sp ⟨2, ![n0, n1]⟩ e) (f) {inb}
    (p : (⟨2, ![n0, n1]⟩ : Shape).Idx → Elt Ideal e) (L) (G : (⟨2, ![n0, n1]⟩ : Shape).Idx → Elt Ideal e) (hp : ∀ y, p y = G y) (y) :
    v.read (Elt Ideal) (v.writes (Elt Ideal) f (⟨Rect.unit (s := ⟨2, ![n0, n1]⟩) ![0, 0] ![n0, n1] inb, p⟩ :: L)) y = G y := by
  have ey : (Rect.unit (s := ⟨2, ![n0, n1]⟩) ![0, 0] ![n0, n1] inb).emb y = y := by
    funext a
    fin_cases a <;> exact Fin.ext ((Rect.emb_apply _ _ _).trans (by simp [Rect.unit]))
  exact (View.read_writes_cons_hit v f (Rect.unit (s := ⟨2, ![n0, n1]⟩) ![0, 0] ![n0, n1] inb) p L y y ey).trans (hp y)

/-- The second tile's products are the weights times the carried rows. -/
theorem A2_eq (w : S384x1024.Idx → EReal) (h : S512x1024.Idx → EReal) (hw : M13.view.read (Elt Ideal) (C13 c i M3 M4 M13 f3 f4 f13) = w)
    (hh : M15.view.read (Elt Ideal) (C15 c i M15 f15) = h) : A2 c i M3 M4 M13 M15 f3 f4 f13 f15 = arr2 (dotG w h) := by
  funext y
  have e13 : kernelRun.sl.v4554 c i M3 M4 M13 f3 f4 f13 = w := (read_whole M13.view (C13 c i M3 M4 M13 f3 f4 f13)).trans hw
  have e15 : kernelRun.sl.v4555 c i M15 f15 = h := (read_whole M15.view (C15 c i M15 f15)).trans hh
  unfold A2
  rw [e13, e15, ← ix2_eta y]
  exact pay648_apply w h (y 0) (y 1)

set_option maxHeartbeats 2000000 in
/-- The run leaves these values. -/
theorem kernelRun_vals (E : St) (e13 : M13.view.read (Elt Ideal) (C13 c i M3 M4 M13 f3 f4 f13) = E.w)
    (e15 : M15.view.read (Elt Ideal) (C15 c i M15 f15) = E.h) (e16 : M16.view.read (Elt Ideal) (C16 c i M16 f16) = E.a)
    (e18 : M18.view.read (Elt Ideal) (C18 c i M5 M7 M18 f5 f7 f18) = E.ta) (e19 : M19.view.read (Elt Ideal) (C19 c i M5 M8 M19 f5 f8 f19) = E.tb)
    (e20 : M20.view.read (Elt Ideal) (C20 c i M6 M20 f6 f20) = E.sv) :
    Vals c i M1 M2 M9 M10 M11 M12 M13 M15 M16 M18 M19 M20 f1 f2 E (kernelRun (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 f1 f2 f3 f4 f5 f6 f7 f8 f13 f15 f16 f18 f19 f20).1 := by
  have hO1 : ∀ r (t : Fin 512) (h : 0 + t.val < 1024), E.rows (posn i) (posn_le i) r ⟨0 + t.val, h⟩ = (O1 c i M5 M6 M7 M8 M16 M18 M19 M20 f5 f6 f7 f8 f16 f18 f19 f20) r t := by
    intro r t h
    unfold O1 St.rows
    rw [e16, e18, e19, e20, dif_pos (by have := t.isLt; dsimp; omega)]
    congr 1
    exact Fin.ext (by dsimp; omega)
  have hO2 : ∀ r (t : Fin 512) (h : 512 + t.val < 1024), E.rows (posn i) (posn_le i) r ⟨512 + t.val, h⟩ = (O2 c i M3 M4 M5 M6 M7 M8 M13 M15 M18 M19 M20 f3 f4 f5 f6 f7 f8 f13 f15 f18 f19 f20) r t := by
    intro r t h
    unfold O2 St.rows
    rw [A2_eq c i M3 M4 M13 M15 f3 f4 f13 f15 E.w E.h e13 e15, e18, e19, e20, dif_neg (by dsimp; omega)]
    congr 1
    exact Fin.ext (by dsimp; omega)
  unfold kernelRun
  dsimp only
  refine ⟨?_, ?_, ?_, ?_, e13, ?_, ?_, e18, e19, e20⟩
  · funext y
    refine View.read_writes_apply_of_pieces M9.view M9.view.junk (cG (E.rows (posn i) (posn_le i)) 0) (kernelRun.sl.H9_16 c i M3 M4 M5 M6 M7 M8 M13 M15 M16 M17 M18 M19 M20 M21 M22 f3 f4 f5 f6 f7 f8 f13 f15 f16 f18 f19 f20) ?_ y (View.cover_of_tiled (kernelRun.sl.H9_16 c i M3 M4 M5 M6 M7 M8 M13 M15 M16 M17 M18 M19 M20 M21 M22 f3 f4 f5 f6 f7 f8 f13 f15 f16 f18 f19 f20) S1x96x128.size (by rfl) y)
    intro p hp
    rw [← List.take_append_drop 8 (kernelRun.sl.H9_16 c i M3 M4 M5 M6 M7 M8 M13 M15 M16 M17 M18 M19 M20 M21 M22 f3 f4 f5 f6 f7 f8 f13 f15 f16 f18 f19 f20), List.mem_append] at hp
    exact hp.elim (pieces9b c i M3 M4 M5 M6 M7 M8 M13 M15 M16 M17 M18 M19 M20 M21 M22 f3 f4 f5 f6 f7 f8 f13 f15 f16 f18 f19 f20 _ hO2 p) (pieces9 c i M5 M6 M7 M8 M16 M18 M19 M20 M21 M22 f5 f6 f7 f8 f16 f18 f19 f20 _ hO1 p)
  · funext y
    refine View.read_writes_apply_of_pieces M10.view M10.view.junk (sG (E.rows (posn i) (posn_le i)) 0) (kernelRun.sl.H10_16 c i M3 M4 M5 M6 M7 M8 M13 M15 M16 M17 M18 M19 M20 M21 f3 f4 f5 f6 f7 f8 f13 f15 f16 f18 f19 f20) ?_ y (View.cover_of_tiled (kernelRun.sl.H10_16 c i M3 M4 M5 M6 M7 M8 M13 M15 M16 M17 M18 M19 M20 M21 f3 f4 f5 f6 f7 f8 f13 f15 f16 f18 f19 f20) S1x1x128.size (by rfl) y)
    intro p hp
    rw [← List.take_append_drop 8 (kernelRun.sl.H10_16 c i M3 M4 M5 M6 M7 M8 M13 M15 M16 M17 M18 M19 M20 M21 f3 f4 f5 f6 f7 f8 f13 f15 f16 f18 f19 f20), List.mem_append] at hp
    exact hp.elim (pieces10b c i M3 M4 M5 M6 M7 M8 M13 M15 M16 M17 M18 M19 M20 M21 f3 f4 f5 f6 f7 f8 f13 f15 f16 f18 f19 f20 _ hO2 p) (pieces10 c i M5 M6 M7 M8 M16 M18 M19 M20 M21 f5 f6 f7 f8 f16 f18 f19 f20 _ hO1 p)
  · funext y
    refine View.read_writes_apply_of_pieces M11.view M11.view.junk (cG (E.rows (posn i) (posn_le i)) 1) (kernelRun.sl.H11_16 c i M3 M4 M5 M6 M7 M8 M13 M15 M16 M17 M18 M19 M20 M21 M22 f3 f4 f5 f6 f7 f8 f13 f15 f16 f18 f19 f20) ?_ y (View.cover_of_tiled (kernelRun.sl.H11_16 c i M3 M4 M5 M6 M7 M8 M13 M15 M16 M17 M18 M19 M20 M21 M22 f3 f4 f5 f6 f7 f8 f13 f15 f16 f18 f19 f20) S1x96x128.size (by rfl) y)
    intro p hp
    rw [← List.take_append_drop 8 (kernelRun.sl.H11_16 c i M3 M4 M5 M6 M7 M8 M13 M15 M16 M17 M18 M19 M20 M21 M22 f3 f4 f5 f6 f7 f8 f13 f15 f16 f18 f19 f20), List.mem_append] at hp
    exact hp.elim (pieces11b c i M3 M4 M5 M6 M7 M8 M13 M15 M16 M17 M18 M19 M20 M21 M22 f3 f4 f5 f6 f7 f8 f13 f15 f16 f18 f19 f20 _ hO2 p) (pieces11 c i M5 M6 M7 M8 M16 M18 M19 M20 M21 M22 f5 f6 f7 f8 f16 f18 f19 f20 _ hO1 p)
  · funext y
    refine View.read_writes_apply_of_pieces M12.view M12.view.junk (sG (E.rows (posn i) (posn_le i)) 1) (kernelRun.sl.H12_16 c i M3 M4 M5 M6 M7 M8 M13 M15 M16 M17 M18 M19 M20 M21 f3 f4 f5 f6 f7 f8 f13 f15 f16 f18 f19 f20) ?_ y (View.cover_of_tiled (kernelRun.sl.H12_16 c i M3 M4 M5 M6 M7 M8 M13 M15 M16 M17 M18 M19 M20 M21 f3 f4 f5 f6 f7 f8 f13 f15 f16 f18 f19 f20) S1x1x128.size (by rfl) y)
    intro p hp
    rw [← List.take_append_drop 8 (kernelRun.sl.H12_16 c i M3 M4 M5 M6 M7 M8 M13 M15 M16 M17 M18 M19 M20 M21 f3 f4 f5 f6 f7 f8 f13 f15 f16 f18 f19 f20), List.mem_append] at hp
    exact hp.elim (pieces12b c i M3 M4 M5 M6 M7 M8 M13 M15 M16 M17 M18 M19 M20 M21 f3 f4 f5 f6 f7 f8 f13 f15 f16 f18 f19 f20 _ hO2 p) (pieces12 c i M5 M6 M7 M8 M16 M18 M19 M20 M21 f5 f6 f7 f8 f16 f18 f19 f20 _ hO1 p)
  · funext y
    exact read15 c M1 M2 M15 f1 f2 _ y
  · funext y
    have w13 : kernelRun.sl.v4554 c i M3 M4 M13 f3 f4 f13 = E.w := (read_whole M13.view (C13 c i M3 M4 M13 f3 f4 f13)).trans e13
    have w14 : kernelRun.sl.v10307 c M1 M2 M14 f1 f2 = hG (M1.view.read (Elt Ideal) f1) (M2.view.read (Elt Ideal) f2) 0 (by omega) :=
      (read_whole M14.view (M14.view.writes (Elt Ideal) M14.view.junk (kernelRun.sl.H14_256 c M1 M2 f1 f2))).trans (funext (read14 c M1 M2 M14 f1 f2 _))
    refine read_head M16.view _ _ _ (arr2 (dotG E.w (hG (M1.view.read (Elt Ideal) f1) (M2.view.read (Elt Ideal) f2) 0 (by omega)))) (fun y => ?_) y
    rw [w13, w14, ← ix2_eta y]
    exact pay1235_apply _ _ (y 0) (y 1)

end

end Cert.KernelIdeal.Hand
-- ==== Proof.ValueRun.lean ====
/-
  The values the kernel's program leaves: the same run of the pipeline as for its frame, with the scratch the body carries
  and the four outputs held at what the body computes.
-/
module

public import proofs.«01_k».proof.Proof.FrameIdeal
public import proofs.«01_k».proof.Proof.BodyValue

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat cellOf)

local notation "𝕄" => MT nD τ sig Unit (Elt Ideal) ℕ (UR sig nD τ) ℕ

variable (m : (ℓ : Loc nD τ sig) → Buf (Elt Ideal) ℓ) (ρ : Dev nD → PrngReg)

/-- The first grid point. -/
def t0 : Fin cfg0.N := ⟨0, by decide⟩

/-- A grid point's coordinate is its number. -/
theorem coords_val : ∀ t : Fin cfg0.N, (grid0.coords t 0).val = t.val := (by decide +kernel : ∀ t : Fin grid0.N, (grid0.coords t 0).val = t.val)

/-- The body's preamble runs at the first point only. -/
theorem first_iff : ∀ t : Fin cfg0.N, kernelRun.sl.v2 (grid0.coords t) = 1#1 ↔ t.val = 0 :=
  (by decide +kernel : ∀ t : Fin grid0.N, kernelRun.sl.v2 (grid0.coords t) = 1#1 ↔ t.val = 0)

/-- Window 1 shows the same block at every point. -/
theorem const1 (c : Dev nD) (t : Fin cfg0.N) : iblk m c 1 t = iblk m c 1 t0 := rfl
/-- Window 2 shows the same block at every point. -/
theorem const2 (c : Dev nD) (t : Fin cfg0.N) : iblk m c 2 t = iblk m c 2 t0 := rfl
/-- Window 3 shows the same block at every point. -/
theorem const3 (c : Dev nD) (t : Fin cfg0.N) : iblk m c 3 t = iblk m c 3 t0 := rfl
/-- Window 4 shows the same block at every point. -/
theorem const4 (c : Dev nD) (t : Fin cfg0.N) : iblk m c 4 t = iblk m c 4 t0 := rfl
/-- Window 5 shows the same block at every point. -/
theorem const5 (c : Dev nD) (t : Fin cfg0.N) : iblk m c 5 t = iblk m c 5 t0 := rfl
/-- Window 6 shows the same block at every point. -/
theorem const6 (c : Dev nD) (t : Fin cfg0.N) : iblk m c 6 t = iblk m c 6 t0 := rfl
/-- Window 7 shows the same block at every point. -/
theorem const7 (c : Dev nD) (t : Fin cfg0.N) : iblk m c 7 t = iblk m c 7 t0 := rfl

/-- Both weights. -/
def Wf (c : Dev nD) : S384x1024.Idx → EReal := arr2 (wG (iblk m c 2 t0) (iblk m c 3 t0))
/-- The cosine table. -/
def TAf (c : Dev nD) : S192x2048.Idx → EReal := arr2 (tA (rowOf (n := 192) (iblk m c 4 t0)) (tabOf (m := 48) (n := 2048) (iblk m c 6 t0)))
/-- The sine table. -/
def TBf (c : Dev nD) : S192x2048.Idx → EReal := arr2 (tB (rowOf (n := 192) (iblk m c 4 t0)) (tabOf (m := 48) (n := 2048) (iblk m c 7 t0)))
/-- The value scales. -/
def SVf (c : Dev nD) : S192x128.Idx → EReal := arr2 fun r _ => rowOf (n := 192) (iblk m c 5 t0) r
/-- The second half of block `t`, normalised. -/
def hN (c : Dev nD) (t : Fin cfg0.N) : S512x1024.Idx → EReal := hG (iblk m c 0 t) (iblk m c 1 t) 512 (by omega)
/-- The products of its first half. -/
def aN (c : Dev nD) (t : Fin cfg0.N) : S384x512.Idx → EReal := arr2 (dotG (Wf m c) (hG (iblk m c 0 t) (iblk m c 1 t) 0 (by omega)))

/-- What the body works from at point `n`: the previous point's rows and products, zeros at the first. -/
def Eof (c : Dev nD) (n : ℕ) : St where
  w := Wf m c
  h := if hn : 0 < n ∧ n ≤ cfg0.N then hN m c ⟨n - 1, by omega⟩ else k0_pay244 (F := Ideal)
  a := if hn : 0 < n ∧ n ≤ cfg0.N then aN m c ⟨n - 1, by omega⟩ else k0_pay246 (F := Ideal) (k0_pay245 (F := Ideal))
  ta := TAf m c
  tb := TBf m c
  sv := SVf m c

theorem Eof_succ_h (c : Dev nD) (t : Fin cfg0.N) : (Eof m c (t.val + 1)).h = hN m c t := by
  unfold Eof
  dsimp only
  rw [dif_pos ⟨by omega, by have := t.isLt; omega⟩]
  congr 1
theorem Eof_succ_a (c : Dev nD) (t : Fin cfg0.N) : (Eof m c (t.val + 1)).a = aN m c t := by
  unfold Eof
  dsimp only
  rw [dif_pos ⟨by omega, by have := t.isLt; omega⟩]
  congr 1

/-- The rotated rows whose codes point `t` stores. -/
def Rw (c : Dev nD) (t : Fin cfg0.N) : Fin 384 → Fin 1024 → EReal := (Eof m c t.val).rows (posn (grid0.coords t)) (posn_le _)

/-- The invariant before point `n`: the carried scratch at what the previous point left, everything else at anything. -/
def Inv (c : Dev nD) (n : ℕ) : sProp 𝕄 :=
  iprop(((∃ f : Bf (F := Ideal) c (Memref.whole cc0_scratch0), ⌜n ≠ 0 → (Memref.whole cc0_scratch0).view.read (Elt Ideal) f = (Eof m c n).w⌝ ∗ pt c (Memref.whole cc0_scratch0) f)
    ∗ (∃ f : Bf (F := Ideal) c (Memref.whole cc0_scratch1), pt c (Memref.whole cc0_scratch1) f)
    ∗ (∃ f : Bf (F := Ideal) c (Memref.whole cc0_scratch2), ⌜n ≠ 0 → (Memref.whole cc0_scratch2).view.read (Elt Ideal) f = (Eof m c n).h⌝ ∗ pt c (Memref.whole cc0_scratch2) f)
    ∗ (∃ f : Bf (F := Ideal) c (Memref.whole cc0_scratch3), ⌜n ≠ 0 → (Memref.whole cc0_scratch3).view.read (Elt Ideal) f = (Eof m c n).a⌝ ∗ pt c (Memref.whole cc0_scratch3) f)
    ∗ (∃ f : Bf (F := Ideal) c (Memref.whole cc0_scratch4), pt c (Memref.whole cc0_scratch4) f)
    ∗ (∃ f : Bf (F := Ideal) c (Memref.whole cc0_scratch5), ⌜n ≠ 0 → (Memref.whole cc0_scratch5).view.read (Elt Ideal) f = (Eof m c n).ta⌝ ∗ pt c (Memref.whole cc0_scratch5) f)
    ∗ (∃ f : Bf (F := Ideal) c (Memref.whole cc0_scratch6), ⌜n ≠ 0 → (Memref.whole cc0_scratch6).view.read (Elt Ideal) f = (Eof m c n).tb⌝ ∗ pt c (Memref.whole cc0_scratch6) f)
    ∗ (∃ f : Bf (F := Ideal) c (Memref.whole cc0_scratch7), ⌜n ≠ 0 → (Memref.whole cc0_scratch7).view.read (Elt Ideal) f = (Eof m c n).sv⌝ ∗ pt c (Memref.whole cc0_scratch7) f)
    ∗ (∃ f : Bf (F := Ideal) c (Memref.whole cc0_scratch8), pt c (Memref.whole cc0_scratch8) f)
    ∗ (∃ f : Bf (F := Ideal) c (Memref.whole cc0_scratch9), pt c (Memref.whole cc0_scratch9) f))
    ∗ ∃ r, prngReg c r)

/-- The proof data: the arrays as the region finds them, each input's block left in place, the outputs at the
    codes and scales of the previous block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => cG (Rw m c t) 0
    | ⟨9, _⟩ => sG (Rw m c t) 0
    | ⟨10, _⟩ => cG (Rw m c t) 1
    | ⟨11, _⟩ => sG (Rw m c t) 1
  Φ t := Inv m c t.val
  q _ := fullShare
  owed _ := 0

/-- The proof data's arrays are the region's. -/
theorem A_eq (c : Dev nD) (w : Fin cfg0.W) : (dats m 0 c).A w = V m c (Pipeline.arrRef spec0 w) := by
  dsimp only [dats]

/-- The body leaves input window 0 at its block; -/
theorem after0_0 (c : Dev nD) (t : Fin cfg0.N) : (dats m 0 c).after 0 t = iblk m c 0 t := by dsimp only [dats]
/-- and finds it there. -/
theorem before0_0 (c : Dev nD) (t : Fin cfg0.N) (d) : (dats m 0 c).before 0 t d = iblk m c 0 t :=
  before0_0_of m (dats m 0 c) (A_eq m c 0) (after0_0 m c) t d
/-- The body leaves input window 1 at its block; -/
theorem after0_1 (c : Dev nD) (t : Fin cfg0.N) : (dats m 0 c).after 1 t = iblk m c 1 t := by dsimp only [dats]
/-- and finds it there. -/
theorem before0_1 (c : Dev nD) (t : Fin cfg0.N) (d) : (dats m 0 c).before 1 t d = iblk m c 1 t :=
  before0_1_of m (dats m 0 c) (A_eq m c 1) (after0_1 m c) t d
/-- The body leaves input window 2 at its block; -/
theorem after0_2 (c : Dev nD) (t : Fin cfg0.N) : (dats m 0 c).after 2 t = iblk m c 2 t := by dsimp only [dats]
/-- and finds it there. -/
theorem before0_2 (c : Dev nD) (t : Fin cfg0.N) (d) : (dats m 0 c).before 2 t d = iblk m c 2 t :=
  before0_2_of m (dats m 0 c) (A_eq m c 2) (after0_2 m c) t d
/-- The body leaves input window 3 at its block; -/
theorem after0_3 (c : Dev nD) (t : Fin cfg0.N) : (dats m 0 c).after 3 t = iblk m c 3 t := by dsimp only [dats]
/-- and finds it there. -/
theorem before0_3 (c : Dev nD) (t : Fin cfg0.N) (d) : (dats m 0 c).before 3 t d = iblk m c 3 t :=
  before0_3_of m (dats m 0 c) (A_eq m c 3) (after0_3 m c) t d
/-- The body leaves input window 4 at its block; -/
theorem after0_4 (c : Dev nD) (t : Fin cfg0.N) : (dats m 0 c).after 4 t = iblk m c 4 t := by dsimp only [dats]
/-- and finds it there. -/
theorem before0_4 (c : Dev nD) (t : Fin cfg0.N) (d) : (dats m 0 c).before 4 t d = iblk m c 4 t :=
  before0_4_of m (dats m 0 c) (A_eq m c 4) (after0_4 m c) t d
/-- The body leaves input window 5 at its block; -/
theorem after0_5 (c : Dev nD) (t : Fin cfg0.N) : (dats m 0 c).after 5 t = iblk m c 5 t := by dsimp only [dats]
/-- and finds it there. -/
theorem before0_5 (c : Dev nD) (t : Fin cfg0.N) (d) : (dats m 0 c).before 5 t d = iblk m c 5 t :=
  before0_5_of m (dats m 0 c) (A_eq m c 5) (after0_5 m c) t d
/-- The body leaves input window 6 at its block; -/
theorem after0_6 (c : Dev nD) (t : Fin cfg0.N) : (dats m 0 c).after 6 t = iblk m c 6 t := by dsimp only [dats]
/-- and finds it there. -/
theorem before0_6 (c : Dev nD) (t : Fin cfg0.N) (d) : (dats m 0 c).before 6 t d = iblk m c 6 t :=
  before0_6_of m (dats m 0 c) (A_eq m c 6) (after0_6 m c) t d
/-- The body leaves input window 7 at its block; -/
theorem after0_7 (c : Dev nD) (t : Fin cfg0.N) : (dats m 0 c).after 7 t = iblk m c 7 t := by dsimp only [dats]
/-- and finds it there. -/
theorem before0_7 (c : Dev nD) (t : Fin cfg0.N) (d) : (dats m 0 c).before 7 t d = iblk m c 7 t :=
  before0_7_of m (dats m 0 c) (A_eq m c 7) (after0_7 m c) t d
/-- What the body leaves in output window 8. -/
theorem after0_8 (c : Dev nD) (t : Fin cfg0.N) : (dats m 0 c).after 8 t = cG (Rw m c t) 0 := by dsimp only [dats]
/-- What the body leaves in output window 9. -/
theorem after0_9 (c : Dev nD) (t : Fin cfg0.N) : (dats m 0 c).after 9 t = sG (Rw m c t) 0 := by dsimp only [dats]
/-- What the body leaves in output window 10. -/
theorem after0_10 (c : Dev nD) (t : Fin cfg0.N) : (dats m 0 c).after 10 t = cG (Rw m c t) 1 := by dsimp only [dats]
/-- What the body leaves in output window 11. -/
theorem after0_11 (c : Dev nD) (t : Fin cfg0.N) : (dats m 0 c).after 11 t = sG (Rw m c t) 1 := by dsimp only [dats]
/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1600000 in
/-- The body at any point: the inputs' buffers hold their blocks and still do at the end. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.castSucc = Inv m c t.val from by dsimp only [dats]; rfl, show (dats m 0 c).Φ t.succ = Inv m c (t.val + 1) from by dsimp only [dats]; rfl,
    show (dats m 0 c).owesAt () t.succ = (dats m 0 c).owesAt () t.castSucc from rfl,
    after0_0, after0_1, after0_2, after0_3, after0_4, after0_5, after0_6, after0_7]
  unfold Inv
  simp only [owns_st0, owns_st1, owns_st2, owns_st3, owns_st4, owns_st5, owns_st6, owns_st7, owns_st8, owns_st9, owns_st10, owns_st11]
  iintro ⟨⟨⟨⟨%f13, %e13, H13⟩, ⟨%f14, H14⟩, ⟨%f15, %e15, H15⟩, ⟨%f16, %e16, H16⟩, ⟨%f17, H17⟩, ⟨%f18, %e18, H18⟩, ⟨%f19, %e19, H19⟩, ⟨%f20, %e20, H20⟩, ⟨%f21, H21⟩, ⟨%f22, H22⟩⟩, Hg⟩, Ho, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, -, H9⟩, ⟨%d10, %f10, -, H10⟩, ⟨%d11, %f11, -, H11⟩, ⟨%d12, %f12, -, H12⟩⟩
  have hz : kernelRun.sl.v2 (grid0.coords t) = 1#1 ↔ t.val = 0 := first_iff t
  have e0h : t.val = 0 → (Eof m c t.val).h = k0_pay244 (F := Ideal) := fun h => by unfold Eof; dsimp only; rw [dif_neg (by omega)]
  have e0a : t.val = 0 → (Eof m c t.val).a = k0_pay246 (F := Ideal) (k0_pay245 (F := Ideal)) := fun h => by unfold Eof; dsimp only; rw [dif_neg (by omega)]
  have q13 : (Memref.whole cc0_scratch0).view.read (Elt Ideal) (C13 c (grid0.coords t) (st0_2 t) (st0_3 t) (Memref.whole cc0_scratch0) f3 f4 f13) = (Eof m c t.val).w := by
    unfold C13
    split
    · funext y
      refine (read13 c (st0_2 t) (st0_3 t) f3 f4 (Memref.whole cc0_scratch0) f13 y).trans ?_
      rw [hf3, hf4]
      rfl
    · exact e13 (fun h => by simp_all)
  have q15 : (Memref.whole cc0_scratch2).view.read (Elt Ideal) (C15 c (grid0.coords t) (Memref.whole cc0_scratch2) f15) = (Eof m c t.val).h := by
    unfold C15
    split
    · next hc =>
      rw [e0h (hz.1 hc)]
      funext y
      exact read_head (e := .bf16) (Memref.whole cc0_scratch2).view _ _ _ (k0_pay244 (F := Ideal)) (fun _ => rfl) y
    · exact e15 (fun h => by simp_all)
  have q16 : (Memref.whole cc0_scratch3).view.read (Elt Ideal) (C16 c (grid0.coords t) (Memref.whole cc0_scratch3) f16) = (Eof m c t.val).a := by
    unfold C16
    split
    · next hc =>
      rw [e0a (hz.1 hc)]
      funext y
      exact read_head (e := .f32) (Memref.whole cc0_scratch3).view _ _ _ (k0_pay246 (F := Ideal) (k0_pay245 (F := Ideal))) (fun _ => rfl) y
    · exact e16 (fun h => by simp_all)
  have q18 : (Memref.whole cc0_scratch5).view.read (Elt Ideal) (C18 c (grid0.coords t) (st0_4 t) (st0_6 t) (Memref.whole cc0_scratch5) f5 f7 f18) = (Eof m c t.val).ta := by
    unfold C18
    split
    · funext y
      refine (read18 c (st0_4 t) (st0_6 t) f5 f7 (Memref.whole cc0_scratch5) f18 y).trans ?_
      rw [hf5, hf7]
      rfl
    · exact e18 (fun h => by simp_all)
  have q19 : (Memref.whole cc0_scratch6).view.read (Elt Ideal) (C19 c (grid0.coords t) (st0_4 t) (st0_7 t) (Memref.whole cc0_scratch6) f5 f8 f19) = (Eof m c t.val).tb := by
    unfold C19
    split
    · funext y
      refine (read19 c (st0_4 t) (st0_7 t) f5 f8 (Memref.whole cc0_scratch6) f19 y).trans ?_
      rw [hf5, hf8]
      rfl
    · exact e19 (fun h => by simp_all)
  have q20 : (Memref.whole cc0_scratch7).view.read (Elt Ideal) (C20 c (grid0.coords t) (st0_5 t) (Memref.whole cc0_scratch7) f6 f20) = (Eof m c t.val).sv := by
    unfold C20
    split
    · funext y
      refine (read20 c (st0_5 t) f6 (Memref.whole cc0_scratch7) f20 y).trans ?_
      rw [hf6]
      rfl
    · exact e20 (fun h => by simp_all)
  have hW := kernelRun_vals c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) f1 f2 f3 f4 f5 f6 f7 f8 f13 f15 f16 f18 f19 f20 (Eof m c t.val) q13 q15 q16 q18 q19 q20
  generalize kernelRun (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) f1 f2 f3 f4 f5 f6 f7 f8 f13 f15 f16 f18 f19 f20 = K at hW
  obtain ⟨⟨g9, g10, g11, g12, g13, g15, g16, g18, g19, g20⟩, hK⟩ := K
  obtain ⟨w9, w10, w11, w12, w13, w15, w16, w18, w19, w20⟩ := hW
  dsimp only at hK w9 w10 w11 w12 w13 w15 w16 w18 w19 w20
  rw [hf1, hf2] at w15 w16
  iapply (hK f9 f10 f11 f12 f14 f17 f21 f22 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H1, H2, H3, H4, H5, H6, H7, H8, H9, H10, H11, H12, H13, ⟨%g14, H14⟩, H15, H16, ⟨%g17, H17⟩, H18, H19, H20, ⟨%g21, H21⟩, ⟨%g22, H22⟩⟩
  isplitl [H13 H14 H15 H16 H17 H18 H19 H20 H21 H22 Hg]
  · isplitr [Hg]
    · isplitl [H13]; · iexists g13; isplitr; (· ipureintro; exact fun _ => w13); iexact H13
      isplitl [H14]; · iexists _; iexact H14
      isplitl [H15]; · iexists g15; isplitr; (· ipureintro; exact fun _ => w15.trans (Eof_succ_h m c t).symm); iexact H15
      isplitl [H16]; · iexists g16; isplitr; (· ipureintro; exact fun _ => w16.trans (Eof_succ_a m c t).symm); iexact H16
      isplitl [H17]; · iexists _; iexact H17
      isplitl [H18]; · iexists g18; isplitr; (· ipureintro; exact fun _ => w18); iexact H18
      isplitl [H19]; · iexists g19; isplitr; (· ipureintro; exact fun _ => w19); iexact H19
      isplitl [H20]; · iexists g20; isplitr; (· ipureintro; exact fun _ => w20); iexact H20
      isplitl [H21]; · iexists _; iexact H21
      iexists _; iexact H22
    · iexact Hg
  isplitl [Ho]; · iexact Ho
  isplitl [H1]; · iexists f1; isplitr; (· ipureintro; exact hf1); iexact H1
  isplitl [H2]; · iexists f2; isplitr; (· ipureintro; exact hf2); iexact H2
  isplitl [H3]; · iexists f3; isplitr; (· ipureintro; exact hf3); iexact H3
  isplitl [H4]; · iexists f4; isplitr; (· ipureintro; exact hf4); iexact H4
  isplitl [H5]; · iexists f5; isplitr; (· ipureintro; exact hf5); iexact H5
  isplitl [H6]; · iexists f6; isplitr; (· ipureintro; exact hf6); iexact H6
  isplitl [H7]; · iexists f7; isplitr; (· ipureintro; exact hf7); iexact H7
  isplitl [H8]; · iexists f8; isplitr; (· ipureintro; exact hf8); iexact H8
  isplitl [H9]; · iexists g9; isplitr; (· ipureintro; exact w9.trans (after0_8 m c t).symm); iexact H9
  isplitl [H10]; · iexists g10; isplitr; (· ipureintro; exact w10.trans (after0_9 m c t).symm); iexact H10
  isplitl [H11]; · iexists g11; isplitr; (· ipureintro; exact w11.trans (after0_10 m c t).symm); iexact H11
  iexists g12; isplitr; (· ipureintro; exact w12.trans (after0_11 m c t).symm); iexact H12

/-- The body obligation at every point. -/
theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

/-- Entering: nothing is known of the scratch before the first point. -/
theorem inv_in (c : Dev nD) : Pipeline.ΦA spec0 c ⊢ Inv m c 0 := by
  unfold Pipeline.ΦA Inv
  rw [scopedRest0_eq]
  iintro ⟨⟨⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩⟩, Hg⟩
  isplitr [Hg]
  · isplitl [H13]; · iexists f13; isplitr; (· ipureintro; exact fun h => absurd rfl h); iexact H13
    isplitl [H14]; · iexists f14; iexact H14
    isplitl [H15]; · iexists f15; isplitr; (· ipureintro; exact fun h => absurd rfl h); iexact H15
    isplitl [H16]; · iexists f16; isplitr; (· ipureintro; exact fun h => absurd rfl h); iexact H16
    isplitl [H17]; · iexists f17; iexact H17
    isplitl [H18]; · iexists f18; isplitr; (· ipureintro; exact fun h => absurd rfl h); iexact H18
    isplitl [H19]; · iexists f19; isplitr; (· ipureintro; exact fun h => absurd rfl h); iexact H19
    isplitl [H20]; · iexists f20; isplitr; (· ipureintro; exact fun h => absurd rfl h); iexact H20
    isplitl [H21]; · iexists f21; iexact H21
    iexists f22; iexact H22
  · iexact Hg

/-- Leaving: what is known is forgotten. -/
theorem inv_out (c : Dev nD) (n : ℕ) : Inv m c n ⊢ Pipeline.ΦA spec0 c := by
  unfold Pipeline.ΦA Inv
  rw [scopedRest0_eq]
  iintro ⟨⟨⟨%f13, -, H13⟩, ⟨%f14, H14⟩, ⟨%f15, -, H15⟩, ⟨%f16, -, H16⟩, ⟨%f17, H17⟩, ⟨%f18, -, H18⟩, ⟨%f19, -, H19⟩, ⟨%f20, -, H20⟩, ⟨%f21, H21⟩, ⟨%f22, H22⟩⟩, Hg⟩
  isplitr [Hg]
  · isplitl [H13]; · iexists f13; iexact H13
    isplitl [H14]; · iexists f14; iexact H14
    isplitl [H15]; · iexists f15; iexact H15
    isplitl [H16]; · iexists f16; iexact H16
    isplitl [H17]; · iexists f17; iexact H17
    isplitl [H18]; · iexists f18; iexact H18
    isplitl [H19]; · iexists f19; iexact H19
    isplitl [H20]; · iexists f20; iexact H20
    isplitl [H21]; · iexists f21; iexact H21
    iexists f22; iexact H22
  · iexact Hg

set_option backward.isDefEq.respectTransparency.types false in
set_option maxHeartbeats 800000 in
/-- The launch: every run ends, every array as the pipeline leaves it, all counters zero. -/
theorem run_main : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m)
    (hin := fun c => (inv_in m c).trans (by dsimp only [dats]; exact .rfl)) (hout := fun c => (show (dats m 0 c).Φ (Fin.last cfg0.N) ⊢ _ by dsimp only [dats]; exact inv_out m c _))

end Cert.KernelIdeal.Val
-- ==== Proof.Algebra.lean ====
/-
  The arithmetic that makes the two programs agree: the kernel's corrections of the scale's exponent change nothing over
  the extended reals, its two-stage maximum is the maximum, and its folded tables give the same rotation.
-/
module

public import proofs.«01_k».proof.Proof.Spec
public import proofs.«01_k».proof.Proof.Tables

@[expose] public section

noncomputable section

namespace Cert.Spec

open Idealize.ShloMosaic

theorem ofBits_zero : Ideal.ofBits .f32 0x00000000#32 = 0 := by simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]
theorem ofBits_1024 : Ideal.ofBits .f32 0x44800000#32 = ((1024 : ℝ) : EReal) := by
  simp [Ideal.ofBits, Ideal.ieee, -EReal.coe_mul]; norm_num
theorem ofBits_inv1024 : Ideal.ofBits .f32 0x3A800000#32 = (((1024 : ℝ)⁻¹ : ℝ) : EReal) := by
  simp [Ideal.ofBits, Ideal.ieee, -EReal.coe_mul]; norm_num

/-- Division by 1024 is multiplication by its reciprocal. -/
theorem div_1024 (x : EReal) : Ideal.div x (Ideal.ofBits .f32 0x44800000#32) = x * Ideal.ofBits .f32 0x3A800000#32 := by
  rw [ofBits_1024, ofBits_inv1024, Ideal.div, if_neg (by norm_num), EReal.coe_inv]

theorem log_coe (r : ℝ) (h : 0 < r) : Ideal.log (r : EReal) = (Real.log r : EReal) := by
  show (if r ≤ 0 then ⊥ else (Real.log r : EReal)) = _
  rw [if_neg (not_le.mpr h)]

theorem rpow_log_div (τ : ℝ) (h : 0 < τ) : (2 : ℝ) ^ (Real.log τ / Real.log 2) = τ := by
  have hl : Real.log 2 ≠ 0 := (Real.log_pos (by norm_num)).ne'
  rw [Real.rpow_def_of_pos (by norm_num), mul_div_cancel₀ _ hl, Real.exp_log h]

/-- At a positive real the exponent before correction is a whole number whose power of two is at most the real, the next
    power above it. -/
theorem e0_spec (τ : ℝ) (h : 0 < τ) : ∃ n : ℝ, e0 (τ : EReal) = (n : EReal) ∧ Real.rpow 2 n ≤ τ ∧ τ < Real.rpow 2 (n + 1) := by
  refine ⟨((⌊Real.log τ / Real.log 2⌋ : ℤ) : ℝ), ?_, ?_, ?_⟩
  · have hl : Real.log 2 ≠ 0 := (Real.log_pos (by norm_num)).ne'
    rw [e0, ofBits_two, log_coe τ h, log_coe 2 (by norm_num), Ideal.div, if_neg (by exact_mod_cast hl), ← EReal.coe_inv, ← EReal.coe_mul]
    rfl
  · calc Real.rpow 2 _ ≤ Real.rpow 2 (Real.log τ / Real.log 2) := Real.rpow_le_rpow_of_exponent_le (by norm_num) (Int.floor_le _)
      _ = τ := rpow_log_div τ h
  · calc τ = Real.rpow 2 (Real.log τ / Real.log 2) := (rpow_log_div τ h).symm
      _ < Real.rpow 2 _ := Real.rpow_lt_rpow_of_exponent_lt (by norm_num) (Int.lt_floor_add_one _)

/-- The corrections change nothing where a scale is needed. -/
theorem e2_eq (t : EReal) (h : normal t) : e2 t = e0 t := by
  obtain ⟨h1, h2⟩ := h
  rw [ofBits_zero] at h1
  rw [ofBits_top] at h2
  lift t to ℝ using ⟨h2.ne, (lt_trans EReal.bot_lt_zero h1).ne'⟩
  obtain ⟨n, hn, hle, hlt⟩ := e0_spec t (by exact_mod_cast h1)
  have h1' : e1 (t : EReal) = e0 t := by
    rw [e1, if_neg]
    rw [hn, not_lt]
    exact EReal.coe_le_coe_iff.mpr hle
  rw [e2, h1', if_neg]
  rw [hn, ofBits_one, ← EReal.coe_add, not_le]
  exact EReal.coe_lt_coe_iff.mpr hlt

/-- The exponent of the scale, as the reference computes it. -/
def eR (t : EReal) : EReal :=
  if normal t then e0 t + Ideal.ofBits .f32 0x3F800000#32 else Ideal.ofBits .f32 0x00000000#32

theorem exp2_zero : Ideal.exp2 0 = 1 := by
  show (Real.rpow 2 0 : EReal) = 1
  simp

theorem scaleF_eq (a : EReal) : scaleF a = Ideal.exp2 (eR (tOf a)) := by
  unfold scaleF eR
  split
  · rename_i h; rw [e2_eq _ h]
  · rw [ofBits_zero, exp2_zero, ofBits_one, EReal.coe_one]

theorem invF_eq (a : EReal) : invF a = Ideal.exp2 (Ideal.ofBits .f32 0x00000000#32 - eR (tOf a)) := by
  unfold invF eR
  split
  · rename_i h; rw [e2_eq _ h]
  · rw [ofBits_zero, sub_zero, exp2_zero, ofBits_one, EReal.coe_one]

/-- The two-stage maximum is the maximum over the head. -/
theorem amax_eq (o : Fin 384 → EReal) (q : Fin 4) :
    amax o q = (Finset.univ : Finset (Fin 96)).fold max (Ideal.ofBits .f32 0xFF800000#32)
      (fun d => max (o ⟨q.val * 96 + d.val, by omega⟩) (-o ⟨q.val * 96 + d.val, by omega⟩)) := by
  rw [ofBits_bot]
  apply le_antisymm
  · have key : ∀ (j : Fin 12) (s : Fin 8),
        max (o ⟨q.val * 96 + (j.val * 8 + s.val), by omega⟩) (-o ⟨q.val * 96 + (j.val * 8 + s.val), by omega⟩)
          ≤ (Finset.univ : Finset (Fin 96)).fold max ⊥ (fun d => max (o ⟨q.val * 96 + d.val, by omega⟩) (-o ⟨q.val * 96 + d.val, by omega⟩)) :=
      fun j s => (Finset.le_fold_max _).mpr (Or.inr ⟨⟨j.val * 8 + s.val, by omega⟩, Finset.mem_univ _, le_rfl⟩)
    have key2 : ∀ s : Fin 8, max12 o q s
          ≤ (Finset.univ : Finset (Fin 96)).fold max ⊥ (fun d => max (o ⟨q.val * 96 + d.val, by omega⟩) (-o ⟨q.val * 96 + d.val, by omega⟩)) := by
      intro s
      unfold max12
      have k := fun j => key j s
      refine max_le (max_le (max_le (max_le (max_le (max_le (max_le (max_le (max_le (max_le (max_le ?_ ?_) ?_) ?_) ?_) ?_) ?_) ?_) ?_) ?_) ?_) ?_ <;> exact k _
    unfold amax
    refine max_le (max_le (max_le (max_le (max_le (max_le (max_le ?_ ?_) ?_) ?_) ?_) ?_) ?_) ?_ <;> exact key2 _
  · refine (Finset.fold_max_le _).mpr ⟨bot_le, fun d _ => ?_⟩
    have hs : ∀ s : Fin 8, max12 o q s ≤ amax o q := by
      intro s
      unfold amax
      fin_cases s <;> simp only [le_max_iff, Fin.zero_eta, Fin.mk_one, Fin.reduceFinMk, le_refl, true_or, or_true]
    have hj : ∀ (j : Fin 12) (s : Fin 8),
        max (o ⟨q.val * 96 + (j.val * 8 + s.val), by omega⟩) (-o ⟨q.val * 96 + (j.val * 8 + s.val), by omega⟩) ≤ max12 o q s := by
      intro j s
      unfold max12
      set f : Fin 12 → EReal := fun j => max (o ⟨q.val * 96 + (j.val * 8 + s.val), by omega⟩) (-o ⟨q.val * 96 + (j.val * 8 + s.val), by omega⟩) with hf
      show f j ≤ _
      clear_value f
      fin_cases j <;> simp only [le_max_iff, Fin.zero_eta, Fin.mk_one, Fin.reduceFinMk, le_refl, true_or, or_true]
    have := (hj ⟨d.val / 8, by omega⟩ ⟨d.val % 8, by omega⟩).trans (hs _)
    have e : (⟨q.val * 96 + (d.val / 8 * 8 + d.val % 8), by omega⟩ : Fin 384) = ⟨q.val * 96 + d.val, by omega⟩ := Fin.ext (by show _ + _ = _ + _; omega)
    simpa only [e] using this

/-- The rotation tables of one position, the key scales folded in. -/
def taF (sk : Fin 192 → EReal) (cs : Fin 48 → EReal) (r : Fin 192) : EReal := sk r * cs ⟨r.val % 48, by omega⟩
def tbF (sk : Fin 192 → EReal) (sn : Fin 48 → EReal) (r : Fin 192) : EReal :=
  if h : r.val % 96 < 48 then Ideal.ofBits .f32 0x00000000#32 - sk ⟨r.val + 48, by omega⟩ * sn ⟨r.val % 48, by omega⟩
  else sk ⟨r.val - 48, by omega⟩ * sn ⟨r.val % 48, by omega⟩

/-- The unscaled products of one position: the keys' weights, then the values'. -/
def PF (x g : Fin 1024 → EReal) (wk wv : Fin 1024 → Fin 192 → EReal) (r : Fin 384) : EReal :=
  ∑ k : Fin 1024, (if h : r.val < 192 then wk k ⟨r.val, h⟩ else wv k ⟨r.val - 192, by omega⟩) * nrm x g k

/-- The rotated keys and the values of one position. -/
def oF (x g : Fin 1024 → EReal) (wk wv : Fin 1024 → Fin 192 → EReal) (sk sv : Fin 192 → EReal) (cs sn : Fin 48 → EReal) : Fin 384 → EReal :=
  rot (PF x g wk wv) (taF sk cs) (tbF sk sn) sv

section rows
variable (x g : Fin 1024 → EReal) (wk wv : Fin 1024 → Fin 192 → EReal) (sk sv : Fin 192 → EReal) (cs sn : Fin 48 → EReal)

theorem PF_k (r : Fin 192) : PF x g wk wv ⟨r.val, by omega⟩ = ∑ k : Fin 1024, nrm x g k * wk k r := by
  unfold PF
  refine Finset.sum_congr rfl fun k _ => ?_
  rw [dif_pos r.isLt, mul_comm]
theorem PF_v (r : Fin 192) : PF x g wk wv ⟨192 + r.val, by omega⟩ = ∑ k : Fin 1024, nrm x g k * wv k r := by
  unfold PF
  refine Finset.sum_congr rfl fun k _ => ?_
  rw [dif_neg (by show ¬ (192 + r.val < 192); omega), mul_comm]
  exact congrArg (fun z => _ * wv k z) (Fin.ext (by show 192 + r.val - 192 = r.val; omega))

/-- A value row. -/
theorem oF_v (r : Fin 192) : oF x g wk wv sk sv cs sn ⟨192 + r.val, by omega⟩ = (∑ k : Fin 1024, nrm x g k * wv k r) * sv r := by
  unfold oF rot
  rw [dif_neg (by show ¬ (192 + r.val < 192); omega), PF_v]
  exact congrArg (fun z => _ * sv z) (Fin.ext (by show 192 + r.val - 192 = r.val; omega))

/-- A key row of the first half of head `n`: the reference's difference. -/
theorem oF_k0 (n : Fin 2) (d : Fin 96) (h : d.val < 48) : oF x g wk wv sk sv cs sn ⟨n.val * 96 + d.val, by omega⟩
    = (∑ k : Fin 1024, nrm x g k * wk k ⟨n.val * 96 + d.val, by omega⟩) * sk ⟨n.val * 96 + d.val, by omega⟩ * cs ⟨d.val, h⟩
      - (∑ k : Fin 1024, nrm x g k * wk k ⟨n.val * 96 + (48 + d.val), by omega⟩) * sk ⟨n.val * 96 + (48 + d.val), by omega⟩ * sn ⟨d.val, h⟩ := by
  unfold oF rot
  rw [dif_pos (by show n.val * 96 + d.val < 192; omega), dif_pos (by show (n.val * 96 + d.val) % 96 < 48; omega)]
  unfold taF tbF
  rw [dif_pos (by show (n.val * 96 + d.val) % 96 < 48; omega), PF_k x g wk wv ⟨n.val * 96 + d.val, by omega⟩]
  have e1 : (⟨n.val * 96 + d.val + 48, by omega⟩ : Fin 384) = ⟨(⟨n.val * 96 + (48 + d.val), by omega⟩ : Fin 192).val, by show n.val * 96 + (48 + d.val) < 384; omega⟩ :=
    Fin.ext (by show n.val * 96 + d.val + 48 = n.val * 96 + (48 + d.val); omega)
  have e2 : (⟨n.val * 96 + d.val + 48, by omega⟩ : Fin 192) = ⟨n.val * 96 + (48 + d.val), by omega⟩ := Fin.ext (by show n.val * 96 + d.val + 48 = n.val * 96 + (48 + d.val); omega)
  have e3 : (⟨(n.val * 96 + d.val) % 48, by omega⟩ : Fin 48) = ⟨d.val, h⟩ := Fin.ext (by show (n.val * 96 + d.val) % 48 = d.val; omega)
  simp only [e1, e2, e3]
  rw [PF_k x g wk wv ⟨n.val * 96 + (48 + d.val), by omega⟩, ofBits_zero, zero_sub, mul_neg, ← sub_eq_add_neg, mul_assoc, mul_assoc]

/-- A key row of the second half of head `n`: the reference's sum. -/
theorem oF_k1 (n : Fin 2) (d : Fin 96) (h : ¬ d.val < 48) : oF x g wk wv sk sv cs sn ⟨n.val * 96 + d.val, by omega⟩
    = (∑ k : Fin 1024, nrm x g k * wk k ⟨n.val * 96 + (48 + (d.val - 48)), by omega⟩) * sk ⟨n.val * 96 + (48 + (d.val - 48)), by omega⟩ * cs ⟨d.val - 48, by omega⟩
      + (∑ k : Fin 1024, nrm x g k * wk k ⟨n.val * 96 + (d.val - 48), by omega⟩) * sk ⟨n.val * 96 + (d.val - 48), by omega⟩ * sn ⟨d.val - 48, by omega⟩ := by
  unfold oF rot
  rw [dif_pos (by show n.val * 96 + d.val < 192; omega), dif_neg (by show ¬ (n.val * 96 + d.val) % 96 < 48; omega)]
  unfold taF tbF
  rw [dif_neg (by show ¬ (n.val * 96 + d.val) % 96 < 48; omega), PF_k x g wk wv ⟨n.val * 96 + d.val, by omega⟩]
  have e0 : (⟨n.val * 96 + (48 + (d.val - 48)), by omega⟩ : Fin 192) = ⟨n.val * 96 + d.val, by omega⟩ := Fin.ext (by show n.val * 96 + (48 + (d.val - 48)) = n.val * 96 + d.val; omega)
  have e1 : (⟨n.val * 96 + d.val - 48, by omega⟩ : Fin 384) = ⟨(⟨n.val * 96 + (d.val - 48), by omega⟩ : Fin 192).val, by show n.val * 96 + (d.val - 48) < 384; omega⟩ :=
    Fin.ext (by show n.val * 96 + d.val - 48 = n.val * 96 + (d.val - 48); omega)
  have e2 : (⟨n.val * 96 + d.val - 48, by omega⟩ : Fin 192) = ⟨n.val * 96 + (d.val - 48), by omega⟩ := Fin.ext (by show n.val * 96 + d.val - 48 = n.val * 96 + (d.val - 48); omega)
  have e3 : (⟨(n.val * 96 + d.val) % 48, by omega⟩ : Fin 48) = ⟨d.val - 48, by omega⟩ := Fin.ext (by show (n.val * 96 + d.val) % 48 = d.val - 48; omega)
  simp only [e0, e1, e2, e3]
  rw [PF_k x g wk wv ⟨n.val * 96 + (d.val - 48), by omega⟩, mul_assoc, mul_assoc]

end rows

/-- The angle of rotation `r` at position `p`. -/
def angF (p : Fin 2048) (r : Fin 48) : EReal :=
  FloatOps.sitofp (F := Ideal) FTy.f32 (BitVec.ofNat 32 p.val) *
    Ideal.pow (Ideal.ofBits FTy.f32 0x48F42400#32)
      (Ideal.div (-(Ideal.ofBits FTy.f32 0x40000000#32 * FloatOps.sitofp (F := Ideal) FTy.f32 (BitVec.ofNat 32 r.val))) (Ideal.ofBits FTy.f32 0x42C00000#32))

/-- A code and a scale, from the rows of a position: head `q`, row `r`. -/
def codeAt (o : Fin 384 → EReal) (r : Fin 384) : EReal := codeF (o r) (invF (amax o ⟨r.val / 96, by omega⟩))
def scaleAt (o : Fin 384 → EReal) (q : Fin 4) : EReal := scaleF (amax o q)

/-- A code as the reference computes it, from one head's rows `f`. -/
theorem codeAt_of (o : Fin 384 → EReal) (half n : Fin 2) (d : Fin 96) (f : Fin 96 → EReal)
    (hf : ∀ d : Fin 96, f d = o ⟨half.val * 192 + (n.val * 96 + d.val), by omega⟩) (r : Fin 384) (hr : r.val = half.val * 192 + (n.val * 96 + d.val)) :
    codeF (f d) (Ideal.exp2 (Ideal.ofBits .f32 0x00000000#32
      - eR (tOf ((Finset.univ : Finset (Fin 96)).fold max (Ideal.ofBits .f32 0xFF800000#32) fun d => max (f d) (-f d))))) = codeAt o r := by
  have hq : r.val / 96 = half.val * 2 + n.val := by omega
  have e : f = fun d : Fin 96 => o ⟨(⟨r.val / 96, by omega⟩ : Fin 4).val * 96 + d.val, by show r.val / 96 * 96 + d.val < 384; omega⟩ :=
    funext fun d => (hf d).trans (congrArg o (Fin.ext (by show half.val * 192 + (n.val * 96 + d.val) = r.val / 96 * 96 + d.val; omega)))
  have e' : f d = o r := (hf d).trans (congrArg o (Fin.ext hr.symm))
  unfold codeAt
  rw [invF_eq, amax_eq, e', e]

/-- A scale as the reference computes it. -/
theorem scaleAt_of (o : Fin 384 → EReal) (half n : Fin 2) (f : Fin 96 → EReal)
    (hf : ∀ d : Fin 96, f d = o ⟨half.val * 192 + (n.val * 96 + d.val), by omega⟩) (q : Fin 4) (hq : q.val = half.val * 2 + n.val) :
    Ideal.exp2 (eR (tOf ((Finset.univ : Finset (Fin 96)).fold max (Ideal.ofBits .f32 0xFF800000#32) fun d => max (f d) (-f d)))) = scaleAt o q := by
  have e : f = fun d : Fin 96 => o ⟨q.val * 96 + d.val, by omega⟩ :=
    funext fun d => (hf d).trans (congrArg o (Fin.ext (by show half.val * 192 + (n.val * 96 + d.val) = q.val * 96 + d.val; omega)))
  unfold scaleAt
  rw [scaleF_eq, amax_eq, e]

section args
variable (a0 : (⟨3, ![32, 2048, 1024]⟩ : Shape).Idx → EReal) (a1 : (⟨1, ![1024]⟩ : Shape).Idx → EReal) (a2 : (⟨2, ![1024, 192]⟩ : Shape).Idx → EReal)
  (a3 : (⟨1, ![192]⟩ : Shape).Idx → EReal) (a4 : (⟨2, ![1024, 192]⟩ : Shape).Idx → EReal) (a5 : (⟨1, ![192]⟩ : Shape).Idx → EReal)

/-- The rows of position `p` of sequence `b`, from the arguments. -/
def oA (b : Fin 32) (p : Fin 2048) : Fin 384 → EReal :=
  oF (fun k => a0 (ix3 b p k)) (fun k => a1 (ix1 k)) (fun k r => a2 (ix2 k r)) (fun k r => a4 (ix2 k r)) (fun r => a3 (ix1 r)) (fun r => a5 (ix1 r))
    (fun r => Ideal.cos (angF p r)) (fun r => Ideal.sin (angF p r))

/-- The codes, of the keys (`half = 0`) or the values (`half = 1`). -/
def codesA (half : Fin 2) (y : (⟨3, ![32, 192, 2048]⟩ : Shape).Idx) : EReal :=
  have h2 : (y 1).val < 192 := (y 1).isLt
  codeAt (oA a0 a1 a2 a3 a4 a5 (y 0) (y 2)) ⟨half.val * 192 + (y 1).val, by have := half.isLt; omega⟩

/-- The scales. -/
def scalesA (half : Fin 2) (y : (⟨3, ![32, 2, 2048]⟩ : Shape).Idx) : EReal :=
  have h2 : (y 1).val < 2 := (y 1).isLt
  scaleAt (oA a0 a1 a2 a3 a4 a5 (y 0) (y 2)) ⟨half.val * 2 + (y 1).val, by have := half.isLt; omega⟩

end args

end Cert.Spec
-- ==== Proof.Launched.lean ====
/-
  The arrays the kernel's launch starts from, and its windows' blocks, entry by entry.
-/
module

public import proofs.«01_k».proof.Proof.Gen.KernelIdeal.Frame
public import proofs.«01_k».proof.Proof.Algebra
public import Idealize.ShloMosaic.Lib.StableHlo.ReadAt
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (c : Dev nD)

theorem hv15 (r : Fin 48) (p : Fin 2048) : (V m c main_v15 : S48x2048.Idx → EReal) (ix2 r p) = Ideal.cos (Spec.angF p r) := by
  unfold Spec.angF V
  after_reads_at
theorem hv16 (r : Fin 48) (p : Fin 2048) : (V m c main_v16 : S48x2048.Idx → EReal) (ix2 r p) = Ideal.sin (Spec.angF p r) := by
  unfold Spec.angF V
  after_reads_at
theorem hv17 (k : Fin 1024) : (V m c main_v17 : S1x1024.Idx → EReal) (ix2 0 k) = (m ((c : Thread nD τ).loc main_arg1) : S1024.Idx → EReal) (ix1 k) := by
  unfold V
  after_reads_at
theorem hv18 (r : Fin 192) (k : Fin 1024) : (V m c main_v18 : S192x1024.Idx → EReal) (ix2 r k) = (m ((c : Thread nD τ).loc main_arg2) : S1024x192.Idx → EReal) (ix2 k r) := by
  unfold V
  after_reads_at
theorem hv19 (r : Fin 192) (k : Fin 1024) : (V m c main_v19 : S192x1024.Idx → EReal) (ix2 r k) = (m ((c : Thread nD τ).loc main_arg4) : S1024x192.Idx → EReal) (ix2 k r) := by
  unfold V
  after_reads_at
theorem hv20 (r : Fin 192) : (V m c main_v20 : S1x192.Idx → EReal) (ix2 0 r) = (m ((c : Thread nD τ).loc main_arg3) : S192.Idx → EReal) (ix1 r) := by
  unfold V
  after_reads_at
theorem hv21 (r : Fin 192) : (V m c main_v21 : S1x192.Idx → EReal) (ix2 0 r) = (m ((c : Thread nD τ).loc main_arg5) : S192.Idx → EReal) (ix1 r) := by
  unfold V
  after_reads_at

/-- The block of `x` at each point, -/
theorem idx0 : ∀ t : Fin cfg0.N, win0_0.index t = ![min t.val 63 / 2, min t.val 63 % 2, 0] :=
  (by decide +kernel : ∀ t : Fin grid0.N, win0_0.index t = ![min t.val 63 / 2, min t.val 63 % 2, 0])
/-- and the other inputs', always the whole array. -/
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])

theorem blk0 (t : Fin cfg0.N) (b : Fin 32) (p : Fin 2048) (q k : Fin 1024) (hb : b.val = min t.val 63 / 2) (hp : p.val = min t.val 63 % 2 * 1024 + q.val) :
    (iblk m c 0 t : S1x1024x1024.Idx → EReal) (ix3 0 q k) = (m ((c : Thread nD τ).loc main_arg0) : S32x2048x1024.Idx → EReal) (ix3 b p k) := by
  rw [← V_main_arg0 m c]
  blk_simp [iblk]
  refine congrArg (V m c main_arg0) ?_
  blk_ext [idx0 t]

theorem blk1 (t : Fin cfg0.N) (k : Fin 1024) : (iblk m c 1 t : S1x1024.Idx → EReal) (ix2 0 k) = (m ((c : Thread nD τ).loc main_arg1) : S1024.Idx → EReal) (ix1 k) := by
  rw [← hv17 m c k]
  blk_simp [iblk]
  refine congrArg (V m c main_v17) ?_
  blk_ext [idx1 t]

theorem blk2 (t : Fin cfg0.N) (r : Fin 192) (k : Fin 1024) : (iblk m c 2 t : S192x1024.Idx → EReal) (ix2 r k) = (m ((c : Thread nD τ).loc main_arg2) : S1024x192.Idx → EReal) (ix2 k r) := by
  rw [← hv18 m c r k]
  blk_simp [iblk]
  refine congrArg (V m c main_v18) ?_
  blk_ext [idx2 t]

theorem blk3 (t : Fin cfg0.N) (r : Fin 192) (k : Fin 1024) : (iblk m c 3 t : S192x1024.Idx → EReal) (ix2 r k) = (m ((c : Thread nD τ).loc main_arg4) : S1024x192.Idx → EReal) (ix2 k r) := by
  rw [← hv19 m c r k]
  blk_simp [iblk]
  refine congrArg (V m c main_v19) ?_
  blk_ext [idx3 t]

theorem blk4 (t : Fin cfg0.N) (r : Fin 192) : (iblk m c 4 t : S1x192.Idx → EReal) (ix2 0 r) = (m ((c : Thread nD τ).loc main_arg3) : S192.Idx → EReal) (ix1 r) := by
  rw [← hv20 m c r]
  blk_simp [iblk]
  refine congrArg (V m c main_v20) ?_
  blk_ext [idx4 t]

theorem blk5 (t : Fin cfg0.N) (r : Fin 192) : (iblk m c 5 t : S1x192.Idx → EReal) (ix2 0 r) = (m ((c : Thread nD τ).loc main_arg5) : S192.Idx → EReal) (ix1 r) := by
  rw [← hv21 m c r]
  blk_simp [iblk]
  refine congrArg (V m c main_v21) ?_
  blk_ext [idx5 t]

theorem blk6 (t : Fin cfg0.N) (r : Fin 48) (p : Fin 2048) : (iblk m c 6 t : S48x2048.Idx → EReal) (ix2 r p) = Ideal.cos (Spec.angF p r) := by
  rw [← hv15 m c r p]
  blk_simp [iblk]
  refine congrArg (V m c main_v15) ?_
  blk_ext [idx6 t]

theorem blk7 (t : Fin cfg0.N) (r : Fin 48) (p : Fin 2048) : (iblk m c 7 t : S48x2048.Idx → EReal) (ix2 r p) = Ideal.sin (Spec.angF p r) := by
  rw [← hv16 m c r p]
  blk_simp [iblk]
  refine congrArg (V m c main_v16) ?_
  blk_ext [idx7 t]

end Cert.KernelIdeal.Val
-- ==== Proof.KernelArrays.lean ====
/-
  The four arrays the kernel's program leaves, entry by entry.
-/
module

public import proofs.«01_k».proof.Proof.ValueRun
public import proofs.«01_k».proof.Proof.Launched

@[expose] public section

set_option maxRecDepth 16384

noncomputable section

namespace Cert.KernelIdeal.Val

open Cert.KernelIdeal Cert.KernelIdeal.Gen Cert.KernelIdeal.Hand Idealize.ShloMosaic Idealize.ShloMosaic.TcCoe Idealize.SL.Sem

variable (m : (ℓ : Loc nD τ sig) → Buf (Elt Ideal) ℓ) (c : Dev nD)

/-- The rows of a position, from the kernel's arguments. -/
def oM (b : Fin 32) (p : Fin 2048) : Fin 384 → EReal :=
  Spec.oA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b p

theorem Wf_apply (r : Fin 384) (k : Fin 1024) : Wf m c (ix2 r k)
    = if h : r.val < 192 then (m ((c : Thread nD τ).loc main_arg2) : S1024x192.Idx → EReal) (ix2 k ⟨r.val, h⟩)
      else (m ((c : Thread nD τ).loc main_arg4) : S1024x192.Idx → EReal) (ix2 k ⟨r.val - 192, by omega⟩) := by
  show wG (iblk m c 2 t0) (iblk m c 3 t0) r k = _
  unfold wG
  split
  · exact blk2 m c t0 _ k
  · exact blk3 m c t0 _ k

/-- A normalised row of block `t`. -/
theorem hG_apply (t : Fin cfg0.N) (ht : t.val ≤ 63) (R0 : ℕ) (hR : R0 ≤ 512) (l : Fin 512) (k : Fin 1024) (b : Fin 32) (p : Fin 2048)
    (hb : b.val = t.val / 2) (hp : p.val = t.val % 2 * 1024 + R0 + l.val) :
    hG (iblk m c 0 t) (iblk m c 1 t) R0 hR (ix2 l k)
      = Spec.nrm (fun k => (m ((c : Thread nD τ).loc main_arg0) : S32x2048x1024.Idx → EReal) (ix3 b p k))
          (fun k => (m ((c : Thread nD τ).loc main_arg1) : S1024.Idx → EReal) (ix1 k)) k := by
  unfold hG
  refine congrArg₂ (fun a g => Spec.nrm a g k) (funext fun k => ?_) (funext fun k => blk1 m c t k)
  exact blk0 m c t b p ⟨R0 + l.val, by omega⟩ k (by rw [hb]; omega) (by rw [hp]; show _ = min t.val 63 % 2 * 1024 + (R0 + l.val); have : min t.val 63 = t.val := by omega
                                                                        rw [this]; omega)

/-- A product of block `t`. -/
theorem dot_apply (t : Fin cfg0.N) (ht : t.val ≤ 63) (R0 : ℕ) (hR : R0 ≤ 512) (l : Fin 512) (r : Fin 384) (b : Fin 32) (p : Fin 2048)
    (hb : b.val = t.val / 2) (hp : p.val = t.val % 2 * 1024 + R0 + l.val) :
    dotG (Wf m c) (hG (iblk m c 0 t) (iblk m c 1 t) R0 hR) r l
      = Spec.PF (fun k => (m ((c : Thread nD τ).loc main_arg0) : S32x2048x1024.Idx → EReal) (ix3 b p k))
          (fun k => (m ((c : Thread nD τ).loc main_arg1) : S1024.Idx → EReal) (ix1 k))
          (fun k r => (m ((c : Thread nD τ).loc main_arg2) : S1024x192.Idx → EReal) (ix2 k r))
          (fun k r => (m ((c : Thread nD τ).loc main_arg4) : S1024x192.Idx → EReal) (ix2 k r)) r := by
  unfold dotG Spec.PF
  refine Finset.sum_congr rfl fun k _ => ?_
  rw [Wf_apply, hG_apply m c t ht R0 hR l k b p hb hp]

/-- A tile of rotated rows, at one position. -/
theorem oG_apply (A : S384x512.Idx → EReal) (pos : ℕ) (hp : pos ≤ 1536) (r : Fin 384) (l : Fin 512) (b : Fin 32) (p : Fin 2048) (hpp : p.val = pos + l.val)
    (hA : ∀ r, A (ix2 r l) = Spec.PF (fun k => (m ((c : Thread nD τ).loc main_arg0) : S32x2048x1024.Idx → EReal) (ix3 b p k))
          (fun k => (m ((c : Thread nD τ).loc main_arg1) : S1024.Idx → EReal) (ix1 k))
          (fun k r => (m ((c : Thread nD τ).loc main_arg2) : S1024x192.Idx → EReal) (ix2 k r))
          (fun k r => (m ((c : Thread nD τ).loc main_arg4) : S1024x192.Idx → EReal) (ix2 k r)) r) :
    oG A (TAf m c) (TBf m c) (SVf m c) pos hp r l = oM m c b p r := by
  unfold oG oM Spec.oA Spec.oF
  have ep : (⟨pos + l.val, by omega⟩ : Fin 2048) = p := Fin.ext hpp.symm
  have e1 : (fun r => A (ix2 r l)) = _ := funext hA
  have e2 : (fun r => TAf m c (ix2 (n0 := 192) (n1 := 2048) r ⟨pos + l.val, by omega⟩))
      = Spec.taF (fun r => (m ((c : Thread nD τ).loc main_arg3) : S192.Idx → EReal) (ix1 r)) (fun r => Ideal.cos (Spec.angF p r)) := by
    funext r
    rw [ep]
    exact congrArg₂ (· * ·) (blk4 m c t0 r) (blk6 m c t0 _ p)
  have e3 : (fun r => TBf m c (ix2 (n0 := 192) (n1 := 2048) r ⟨pos + l.val, by omega⟩))
      = Spec.tbF (fun r => (m ((c : Thread nD τ).loc main_arg3) : S192.Idx → EReal) (ix1 r)) (fun r => Ideal.sin (Spec.angF p r)) := by
    funext r
    rw [ep]
    show tB _ _ r p = _
    unfold tB Spec.tbF
    split
    · exact congrArg (Ideal.ofBits .f32 0x00000000#32 - ·) (congrArg₂ (· * ·) (blk4 m c t0 _) (blk7 m c t0 _ p))
    · exact congrArg₂ (· * ·) (blk4 m c t0 _) (blk7 m c t0 _ p)
  have e4 : (fun r => SVf m c (ix2 (n0 := 192) (n1 := 128) r ⟨l.val % 128, by omega⟩)) = fun r => (m ((c : Thread nD τ).loc main_arg5) : S192.Idx → EReal) (ix1 r) :=
    funext fun r => blk5 m c t0 r
  rw [e1, e2, e3, e4]

/-- The rows point `t` stores are the previous block's. -/
theorem Rw_eq (t : Fin cfg0.N) (ht : 0 < t.val) (r : Fin 384) (l : Fin 1024) (b : Fin 32) (p : Fin 2048)
    (hb : b.val = (t.val - 1) / 2) (hp : p.val = (t.val - 1) % 2 * 1024 + l.val) : Rw m c t r l = oM m c b p r := by
  have hN : t.val < 65 := t.isLt
  obtain ⟨s, hs⟩ : ∃ s : Fin cfg0.N, t.val = s.val + 1 := ⟨⟨t.val - 1, by omega⟩, by show t.val = t.val - 1 + 1; omega⟩
  have hpos : posn (grid0.coords t) = s.val % 2 * 1024 := by
    unfold posn
    rw [coords_val, hs]
    omega
  rw [hs, Nat.add_sub_cancel] at hb hp
  unfold Rw St.rows
  split
  · rename_i hl
    refine oG_apply m c _ _ _ r ⟨l.val, hl⟩ b p (by rw [hpos]; exact hp) fun r => ?_
    rw [hs, Eof_succ_a]
    exact dot_apply m c s (by omega) 0 _ ⟨l.val, hl⟩ r b p hb (by rw [hp]; rfl)
  · rename_i hl
    refine oG_apply m c _ _ _ r ⟨l.val - 512, by omega⟩ b p (by rw [hpos, hp]; show _ = _ + 512 + (l.val - 512); omega) fun r => ?_
    show dotG (Eof m c t.val).w (Eof m c t.val).h r _ = _
    rw [hs, Eof_succ_h]
    exact dot_apply m c s (by omega) 512 _ ⟨l.val - 512, by omega⟩ r b p hb (by rw [hp]; show _ = _ + 512 + (l.val - 512); omega)

/-- Where the blocks written back sit, and when. -/
theorem idx8 : ∀ t : Fin cfg0.N, win0_8.index t = ![(t.val - 1) / 2, 0, (t.val - 1) % 2] :=
  (by decide +kernel : ∀ t : Fin grid0.N, win0_8.index t = ![(t.val - 1) / 2, 0, (t.val - 1) % 2])
theorem pos8 : ∀ t : Fin cfg0.N, (cfg0.win 8).flush t = true → 0 < t.val :=
  (by decide +kernel : ∀ t : Fin grid0.N, win0_8.flush t = true → 0 < t.val)
theorem idx9 : ∀ t : Fin cfg0.N, win0_9.index t = ![(t.val - 1) / 2, 0, (t.val - 1) % 2] :=
  (by decide +kernel : ∀ t : Fin grid0.N, win0_9.index t = ![(t.val - 1) / 2, 0, (t.val - 1) % 2])
theorem pos9 : ∀ t : Fin cfg0.N, (cfg0.win 9).flush t = true → 0 < t.val :=
  (by decide +kernel : ∀ t : Fin grid0.N, win0_9.flush t = true → 0 < t.val)
theorem idx10 : ∀ t : Fin cfg0.N, win0_10.index t = ![(t.val - 1) / 2, 0, (t.val - 1) % 2] :=
  (by decide +kernel : ∀ t : Fin grid0.N, win0_10.index t = ![(t.val - 1) / 2, 0, (t.val - 1) % 2])
theorem pos10 : ∀ t : Fin cfg0.N, (cfg0.win 10).flush t = true → 0 < t.val :=
  (by decide +kernel : ∀ t : Fin grid0.N, win0_10.flush t = true → 0 < t.val)
theorem idx11 : ∀ t : Fin cfg0.N, win0_11.index t = ![(t.val - 1) / 2, 0, (t.val - 1) % 2] :=
  (by decide +kernel : ∀ t : Fin grid0.N, win0_11.index t = ![(t.val - 1) / 2, 0, (t.val - 1) % 2])
theorem pos11 : ∀ t : Fin cfg0.N, (cfg0.win 11).flush t = true → 0 < t.val :=
  (by decide +kernel : ∀ t : Fin grid0.N, win0_11.flush t = true → 0 < t.val)

/-- The codes point `t` stores, at an array index. -/
theorem cG_eq (half : Fin 2) (t : Fin cfg0.N) (ht : 0 < t.val) (y : S1x192x1024.Idx) (z : S32x192x2048.Idx)
    (h0 : (z 0).val = (t.val - 1) / 2) (h1 : (z 1).val = (y 1).val) (h2 : (z 2).val = (t.val - 1) % 2 * 1024 + (y 2).val) :
    cG (Rw m c t) half y = Spec.codesA (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) half z := by
  have e : (fun r => Rw m c t r (y 2)) = oM m c (z 0) (z 2) := funext fun r => Rw_eq m c t ht r (y 2) (z 0) (z 2) h0 h2
  have hy : (y 1).val < 192 := (y 1).isLt
  have hh := half.isLt
  show Spec.codeF ((fun r => Rw m c t r (y 2)) ⟨half.val * 192 + (y 1).val, by omega⟩) (Spec.invF (Spec.amax (fun r => Rw m c t r (y 2)) ⟨half.val * 2 + (y 1).val / 96, by omega⟩))
    = Spec.codeF (oM m c (z 0) (z 2) ⟨half.val * 192 + (z 1).val, by omega⟩) (Spec.invF (Spec.amax (oM m c (z 0) (z 2)) ⟨(half.val * 192 + (z 1).val) / 96, by omega⟩))
  rw [e]
  have f1 : (⟨half.val * 192 + (y 1).val, by omega⟩ : Fin 384) = ⟨half.val * 192 + (z 1).val, by omega⟩ := Fin.ext (by show _ = _; dsimp only; omega)
  have f2 : (⟨half.val * 2 + (y 1).val / 96, by omega⟩ : Fin 4) = ⟨(half.val * 192 + (z 1).val) / 96, by omega⟩ := Fin.ext (by show _ = _; dsimp only; omega)
  rw [f1, f2]

/-- The scales point `t` stores, at an array index. -/
theorem sG_eq (half : Fin 2) (t : Fin cfg0.N) (ht : 0 < t.val) (y : S1x2x1024.Idx) (z : S32x2x2048.Idx)
    (h0 : (z 0).val = (t.val - 1) / 2) (h1 : (z 1).val = (y 1).val) (h2 : (z 2).val = (t.val - 1) % 2 * 1024 + (y 2).val) :
    sG (Rw m c t) half y = Spec.scalesA (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) half z := by
  have e : (fun r => Rw m c t r (y 2)) = oM m c (z 0) (z 2) := funext fun r => Rw_eq m c t ht r (y 2) (z 0) (z 2) h0 h2
  have hy : (y 1).val < 2 := (y 1).isLt
  have hh := half.isLt
  show Spec.scaleF (Spec.amax (fun r => Rw m c t r (y 2)) ⟨half.val * 2 + (y 1).val, by omega⟩)
    = Spec.scaleF (Spec.amax (oM m c (z 0) (z 2)) ⟨half.val * 2 + (z 1).val, by omega⟩)
  rw [e]
  have f2 : (⟨half.val * 2 + (y 1).val, by omega⟩ : Fin 4) = ⟨half.val * 2 + (z 1).val, by omega⟩ := Fin.ext (by show _ = _; dsimp only; omega)
  rw [f2]

/-- The key codes after the run. -/
theorem final8 : (dats m 0 c).arrAt 8 cfg0.N = Spec.codesA (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) 0 := by
  refine (dats m 0 c).arrAt_eq_of_covers 8 _ (by decide +kernel) fun t hf y => ?_
  blk_simp
  rw [after0_8]
  refine cG_eq m c 0 t (pos8 t hf) y _ ?_ ?_ ?_
  · have := (y 0).isLt
    blk_simp [idx8 t]
  · blk_simp [idx8 t]
  · blk_simp [idx8 t]

/-- The key scales after the run. -/
theorem final9 : (dats m 0 c).arrAt 9 cfg0.N = Spec.scalesA (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) 0 := by
  refine (dats m 0 c).arrAt_eq_of_covers 9 _ (by decide +kernel) fun t hf y => ?_
  blk_simp
  rw [after0_9]
  refine sG_eq m c 0 t (pos9 t hf) y _ ?_ ?_ ?_
  · have := (y 0).isLt
    blk_simp [idx9 t]
  · blk_simp [idx9 t]
  · blk_simp [idx9 t]

/-- The value codes after the run. -/
theorem final10 : (dats m 0 c).arrAt 10 cfg0.N = Spec.codesA (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) 1 := by
  refine (dats m 0 c).arrAt_eq_of_covers 10 _ (by decide +kernel) fun t hf y => ?_
  blk_simp
  rw [after0_10]
  refine cG_eq m c 1 t (pos10 t hf) y _ ?_ ?_ ?_
  · have := (y 0).isLt
    blk_simp [idx10 t]
  · blk_simp [idx10 t]
  · blk_simp [idx10 t]

/-- The value scales after the run. -/
theorem final11 : (dats m 0 c).arrAt 11 cfg0.N = Spec.scalesA (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) 1 := by
  refine (dats m 0 c).arrAt_eq_of_covers 11 _ (by decide +kernel) fun t hf y => ?_
  blk_simp
  rw [after0_11]
  refine sG_eq m c 1 t (pos11 t hf) y _ ?_ ?_ ?_
  · have := (y 0).isLt
    blk_simp [idx11 t]
  · blk_simp [idx11 t]
  · blk_simp [idx11 t]

end Cert.KernelIdeal.Val
-- ==== Proof.KernelEnds.lean ====
/-
  What each program's run ends with, in the specification's words.
-/
module

public import proofs.«01_k».proof.Proof.KernelArrays

@[expose] public section

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Every run ends, the four arrays as the specification has them, the arguments kept. -/
theorem ends : θ_run defs (onTc (τ := τ) (main (F := Ideal))) ⟨m, fun _ => 0, ρ⟩ (fun r => ∀ c : Dev nD,
      r.2.mem ((c.tc : Thread nD τ).loc main_v22_0) = Spec.codesA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 0
      ∧ r.2.mem ((c.tc : Thread nD τ).loc main_v22_1) = Spec.scalesA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 0
      ∧ r.2.mem ((c.tc : Thread nD τ).loc main_v22_2) = Spec.codesA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 1
      ∧ r.2.mem ((c.tc : Thread nD τ).loc main_v22_3) = Spec.scalesA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 8).trans (final8 m c),
      ((h.1 c).1 9).trans (final9 m c),
      ((h.1 c).1 10).trans (final10 m c),
      ((h.1 c).1 11).trans (final11 m c),
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩) (run_main m ρ)

end Cert.KernelIdeal.Val
-- ==== Proof.RefValue.lean ====
/-
  What the reference's body computes, entry by entry.
-/
module

public import proofs.«01_k».proof.Proof.Gen.ReferenceIdeal.Frame
public import proofs.«01_k».proof.Proof.Algebra
public import Idealize.ShloMosaic.Lib.StableHlo.ReadAt
public import Idealize.ShloMosaic.Lib.Pipeline.ValueKit

@[expose] public section

noncomputable section

namespace Cert.ReferenceIdeal.Val

open Cert.ReferenceIdeal Cert.ReferenceIdeal.Gen Idealize.ShloMosaic Idealize.ShloMosaic.TcCoe Idealize.SL.Sem
open Idealize.ShloMosaic.Pipeline (Dat)

/-- The largest absolute value of each head divided by the largest code. -/
def tR (v : FVec Ideal S32x2048x2x96 .f32) : FVec Ideal S32x2048x2 .f32 :=
  mulf (multiReduction .maximumf [3] S32x2048x2 (absf v) 0xFF800000#32 reduces_S32x2048x2x96_S32x2048x2 (.inl rfl) rfl)
    (broadcast S32x2048x2 (Scalar.ofBits .f32 0x3B124925#32))

/-- The exponent of its scale. -/
def eV (t : FVec Ideal S32x2048x2 .f32) : FVec Ideal S32x2048x2 .f32 :=
  select (andi (cmpf .ogt t (broadcast S32x2048x2 (Scalar.ofBits .f32 0x00000000#32))) (cmpf .olt t (broadcast S32x2048x2 (Scalar.ofBits .f32 0x7F800000#32))))
    (addf (floor (divf (log t) (log (broadcast S32x2048x2 (Scalar.ofBits .f32 0x40000000#32))))) (broadcast S32x2048x2 (Scalar.ofBits .f32 0x3F800000#32)))
    (broadcast S32x2048x2 (Scalar.ofBits .f32 0x00000000#32))

theorem tR_apply (v : FVec Ideal S32x2048x2x96 .f32) (b : Fin 32) (p : Fin 2048) (n : Fin 2) :
    tR v (ix3 b p n) = Spec.tOf ((Finset.univ : Finset (Fin 96)).fold max (Ideal.ofBits .f32 0xFF800000#32) fun d => max (v (ix4 b p n d)) (-v (ix4 b p n d))) := by
  have h : multiReduction .maximumf [3] S32x2048x2 (absf v) 0xFF800000#32 reduces_S32x2048x2x96_S32x2048x2 (.inl rfl) rfl (ix3 b p n)
      = (Finset.univ : Finset (Fin 96)).fold max (FloatOps.ofBits (F := Ideal) .f32 0xFF800000#32) fun d => absf v (ix4 b p n d) := by
    simp only [pointwise]
  have e : tR v (ix3 b p n) = multiReduction .maximumf [3] S32x2048x2 (absf v) 0xFF800000#32 reduces_S32x2048x2x96_S32x2048x2 (.inl rfl) rfl (ix3 b p n)
      * Ideal.ofBits .f32 0x3B124925#32 := by
    unfold tR
    exact mulf_apply _ _ _
  have h' : (Finset.univ : Finset (Fin 96)).fold max (FloatOps.ofBits (F := Ideal) .f32 0xFF800000#32) (fun d => absf v (ix4 b p n d))
      = (Finset.univ : Finset (Fin 96)).fold max (Ideal.ofBits .f32 0xFF800000#32) fun d => max (v (ix4 b p n d)) (-v (ix4 b p n d)) :=
    Finset.fold_congr fun d _ => rfl
  unfold Spec.tOf
  rw [e, h, h']

theorem eV_apply (t : FVec Ideal S32x2048x2 .f32) (j : S32x2048x2.Idx) : eV t j = Spec.eR (t j) := by
  classical
  have key : ∀ (p q : Prop) [Decidable p] [Decidable q] (x y : EReal),
      (Scalar.select (IntOp.andi (BitVec.ofBool (decide p)) (BitVec.ofBool (decide q))) x y : EReal) = if p ∧ q then x else y := by
    intro p q _ _ x y
    by_cases hp : p <;> by_cases hq : q <;> simp [hp, hq, IntOp.andi, Scalar.select]
  refine (key _ _ _ _).trans ?_
  unfold Spec.eR Spec.normal
  exact if_congr Iff.rfl rfl rfl

theorem pay13_apply (h : FVec Ideal S32x2048x1024 .bf16) (w : Vec Ideal S1024x192 .fp8e4m3) (s : Vec Ideal S192 .f32)
    (b : Fin 32) (p : Fin 2048) (n : Fin 2) (d : Fin 96) :
    k0_pay13 (F := Ideal) h w s (ix4 b p n d)
      = (∑ k : Fin 1024, h (ix3 b p k) * w (ix2 k ⟨n.val * 96 + d.val, by omega⟩)) * s (ix1 ⟨n.val * 96 + d.val, by omega⟩) := by
  pointwise [k0_pay13]

theorem pay6_apply (h : Vec Ideal S32x2048x1024 .bf16) (cs sn : Vec Ideal S2048x48 .f32) (w : Vec Ideal S1024x192 .fp8e4m3) (s : Vec Ideal S192 .f32)
    (b : Fin 32) (p : Fin 2048) (n : Fin 2) (d : Fin 96) :
    k0_pay6 (F := Ideal) h cs sn w s (ix4 b p n d) =
    (if h_1 : d.val < 48 then
      (∑ x, h (ix3 b p x) * w (ix2 x ⟨n.val * 96 + d.val, by omega⟩)) * s (ix1 ⟨n.val * 96 + d.val, by omega⟩) * cs (ix2 p ⟨d.val, h_1⟩) -
        (∑ x, h (ix3 b p x) * w (ix2 x ⟨n.val * 96 + (48 + d.val), by omega⟩)) * s (ix1 ⟨n.val * 96 + (48 + d.val), by omega⟩) *
          sn (ix2 p ⟨d.val, h_1⟩)
    else
      (∑ x, h (ix3 b p x) * w (ix2 x ⟨n.val * 96 + (48 + (d.val - 48)), by omega⟩)) * s (ix1 ⟨n.val * 96 + (48 + (d.val - 48)), by omega⟩) *
          cs (ix2 p ⟨d.val - 48, by omega⟩) +
        (∑ x, h (ix3 b p x) * w (ix2 x ⟨n.val * 96 + (d.val - 48), by omega⟩)) * s (ix1 ⟨n.val * 96 + (d.val - 48), by omega⟩) *
          sn (ix2 p ⟨d.val - 48, by omega⟩)) := by
  pointwise [k0_pay6, k0_pay5]

theorem pay3_apply (v66 : FVec Ideal S32x2048x2x96 .f32) (v86 : FVec Ideal S32x2048x2 .f32) (b : Fin 32) (r : Fin 192) (p : Fin 2048) :
    k0_pay3 (F := Ideal) v66 v86 (ix3 b r p)
      = Spec.codeF (v66 (ix4 b p ⟨r.val / 96, by omega⟩ ⟨r.val % 96, by omega⟩)) (Ideal.exp2 (v86 (ix3 b p ⟨r.val / 96, by omega⟩))) := by
  unfold Spec.codeF
  pointwise [k0_pay3]
  all_goals rfl

theorem pay1_apply (v57 : FVec Ideal S32x2048x2x96 .fp8e4m3) (b : Fin 32) (r : Fin 192) (p : Fin 2048) :
    k0_pay1 (F := Ideal) v57 (ix3 b r p) = v57 (ix4 b p ⟨r.val / 96, by omega⟩ ⟨r.val % 96, by omega⟩) := by
  pointwise [k0_pay1]

theorem pay11_apply (v : FVec Ideal S32x2048x2x96 .f32) (t : FVec Ideal S32x2048x2 .f32) (m1 m2 c1) (hm : k0_pay10 (F := Ideal) m1 m2 c1 = eV t)
    (b : Fin 32) (p : Fin 2048) (n : Fin 2) (d : Fin 96) :
    k0_pay11 (F := Ideal) v m1 m2 c1 (ix4 b p n d)
      = Spec.codeF (v (ix4 b p n d)) (Ideal.exp2 (Ideal.ofBits .f32 0x00000000#32 - Spec.eR (t (ix3 b p n)))) := by
  rw [← eV_apply, ← hm]
  unfold Spec.codeF
  generalize hz : k0_pay10 (F := Ideal) m1 m2 c1 = z
  simp only [k0_pay11, hz]
  pointwise
  all_goals rfl

theorem pay10_eq (h cs sn w s) : k0_pay10 (F := Ideal) (k0_pay8 h cs sn w s) (k0_pay9 h cs sn w s) (Scalar.ofBits .f32 0x3F800000#32) = eV (tR (k0_pay6 h cs sn w s)) := rfl
theorem pay14_eq (h w s) : k0_pay14 (F := Ideal) h w s = eV (tR (k0_pay13 h w s)) := rfl

section launch
variable (m : (ℓ : Loc nD τ sig) → Buf (Elt Ideal) ℓ) (c : Dev nD)

theorem hv14 (b : Fin 32) (p : Fin 2048) (k : Fin 1024) : (V m c main_v14 : S32x2048x1024.Idx → EReal) (ix3 b p k)
    = Spec.nrm (fun k => (m ((c : Thread nD τ).loc main_arg0) : S32x2048x1024.Idx → EReal) (ix3 b p k))
        (fun k => (m ((c : Thread nD τ).loc main_arg1) : S1024.Idx → EReal) (ix1 k)) k := by
  unfold Spec.nrm
  rw [← Spec.div_1024]
  unfold V
  after_reads_at
theorem hv30 (p : Fin 2048) (r : Fin 48) : (V m c main_v30 : S2048x48.Idx → EReal) (ix2 p r) = Ideal.cos (Spec.angF p r) := by
  unfold Spec.angF V
  after_reads_at
theorem hv31 (p : Fin 2048) (r : Fin 48) : (V m c main_v31 : S2048x48.Idx → EReal) (ix2 p r) = Ideal.sin (Spec.angF p r) := by
  unfold Spec.angF V
  after_reads_at

end launch

end Cert.ReferenceIdeal.Val
-- ==== Proof.RefArrays.lean ====
/-
  The four arrays the reference leaves, entry by entry.
-/
module

public import proofs.«01_k».proof.Proof.RefValue

@[expose] public section

set_option maxRecDepth 16384

noncomputable section

namespace Cert.ReferenceIdeal.Val

open Cert.ReferenceIdeal Cert.ReferenceIdeal.Gen Idealize.ShloMosaic Idealize.ShloMosaic.TcCoe Idealize.SL.Sem

section outs
variable (x0 : Vec Ideal S32x2048x1024 .bf16) (x1 : Vec Ideal S1024x192 .fp8e4m3) (x2 : Vec Ideal S192 .f32) (x3 : Vec Ideal S1024x192 .fp8e4m3) (x4 : Vec Ideal S192 .f32) (x5 x6 : Vec Ideal S2048x48 .f32)

theorem out7_eq : out0_7 (F := Ideal) x0 x1 x2 x3 x4 x5 x6
    = k0_pay1 (k0_pay11 (k0_pay6 x0 x5 x6 x1 x2) (k0_pay8 x0 x5 x6 x1 x2) (k0_pay9 x0 x5 x6 x1 x2) (Scalar.ofBits .f32 0x3F800000#32)) := by
  unfold out0_7 k0_pay17 k0_pay18
  frame_out
theorem out8_eq : out0_8 (F := Ideal) x0 x1 x2 x3 x4 x5 x6
    = k0_pay2 (k0_pay12 (k0_pay8 x0 x5 x6 x1 x2) (k0_pay9 x0 x5 x6 x1 x2) (Scalar.ofBits .f32 0x3F800000#32)) := by
  unfold out0_8 k0_pay17 k0_pay18
  frame_out
theorem out9_eq : out0_9 (F := Ideal) x0 x1 x2 x3 x4 x5 x6 = k0_pay3 (k0_pay13 (k0_pay5 x0) x3 x4) (k0_pay15 (k0_pay5 x0) x3 x4) := by
  unfold out0_9 k0_pay16
  frame_out
theorem out10_eq : out0_10 (F := Ideal) x0 x1 x2 x3 x4 x5 x6 = k0_pay4 (k0_pay14 (k0_pay5 x0) x3 x4) := by
  unfold out0_10 k0_pay16
  frame_out

theorem pay5_eq : k0_pay5 (F := Ideal) x0 = x0 := by
  unfold k0_pay5
  exact shapeCast_self _ _

theorem pay2_apply (z : FVec Ideal S32x2048x2 .f32) (b : Fin 32) (n : Fin 2) (p : Fin 2048) : k0_pay2 (F := Ideal) z (ix3 b n p) = z (ix3 b p n) := by
  pointwise [k0_pay2]

theorem pay4_apply (z : FVec Ideal S32x2048x2 .f32) (b : Fin 32) (n : Fin 2) (p : Fin 2048) : k0_pay4 (F := Ideal) z (ix3 b n p) = Ideal.exp2 (z (ix3 b p n)) := by
  pointwise [k0_pay4]
  all_goals rfl

theorem exp2_at (z : FVec Ideal S32x2048x2 .f32) (j : S32x2048x2.Idx) : exp2 z j = Ideal.exp2 (z j) := rfl

theorem pay12_eq (j : S32x2048x2.Idx) : k0_pay12 (F := Ideal) (k0_pay8 x0 x5 x6 x1 x2) (k0_pay9 x0 x5 x6 x1 x2) (Scalar.ofBits .f32 0x3F800000#32) j
    = Ideal.exp2 (eV (tR (k0_pay6 x0 x5 x6 x1 x2)) j) := by
  unfold k0_pay12
  rw [exp2_at, pay10_eq]

/-- The rotated keys of a position, the block's entries given, -/
theorem pay6_row (b : Fin 32) (p : Fin 2048) (n : Fin 2) (d : Fin 96) (x g : Fin 1024 → EReal) (wk wv : Fin 1024 → Fin 192 → EReal) (sk sv : Fin 192 → EReal) (cs sn : Fin 48 → EReal)
    (e0 : ∀ k, x0 (ix3 b p k) = Spec.nrm x g k) (e1 : ∀ k r, x1 (ix2 k r) = wk k r) (e2 : ∀ r, x2 (ix1 r) = sk r)
    (e5 : ∀ r, x5 (ix2 p r) = cs r) (e6 : ∀ r, x6 (ix2 p r) = sn r) :
    k0_pay6 (F := Ideal) x0 x5 x6 x1 x2 (ix4 b p n d) = Spec.oF x g wk wv sk sv cs sn ⟨n.val * 96 + d.val, by omega⟩ := by
  rw [pay6_apply]
  by_cases h : d.val < 48
  · rw [dif_pos h, Spec.oF_k0 x g wk wv sk sv cs sn n d h]
    simp only [e0, e1, e2, e5, e6]
  · rw [dif_neg h, Spec.oF_k1 x g wk wv sk sv cs sn n d h]
    simp only [e0, e1, e2, e5, e6]

/-- and its values. -/
theorem pay13_row (b : Fin 32) (p : Fin 2048) (n : Fin 2) (d : Fin 96) (x g : Fin 1024 → EReal) (wk wv : Fin 1024 → Fin 192 → EReal) (sk sv : Fin 192 → EReal) (cs sn : Fin 48 → EReal)
    (e0 : ∀ k, x0 (ix3 b p k) = Spec.nrm x g k) (e3 : ∀ k r, x3 (ix2 k r) = wv k r) (e4 : ∀ r, x4 (ix1 r) = sv r) :
    k0_pay13 (F := Ideal) x0 x3 x4 (ix4 b p n d) = Spec.oF x g wk wv sk sv cs sn ⟨192 + (n.val * 96 + d.val), by omega⟩ := by
  rw [pay13_apply]
  refine Eq.trans ?_ (Spec.oF_v x g wk wv sk sv cs sn ⟨n.val * 96 + d.val, by omega⟩).symm
  simp only [e0, e3, e4]

variable (o : Fin 32 → Fin 2048 → Fin 384 → EReal)

/-- The key codes, the rows given. -/
theorem out7_apply (hk : ∀ b p (n : Fin 2) (d : Fin 96), k0_pay6 (F := Ideal) x0 x5 x6 x1 x2 (ix4 b p n d) = o b p ⟨(0 : Fin 2).val * 192 + (n.val * 96 + d.val), by show 0 * 192 + _ < _; omega⟩)
    (b : Fin 32) (r : Fin 192) (p : Fin 2048) :
    out0_7 (F := Ideal) x0 x1 x2 x3 x4 x5 x6 (ix3 b r p) = Spec.codeAt (o b p) ⟨(0 : Fin 2).val * 192 + r.val, by show 0 * 192 + _ < _; omega⟩ := by
  rw [out7_eq, pay1_apply, pay11_apply _ _ _ _ _ (pay10_eq x0 x5 x6 x1 x2), tR_apply]
  exact Spec.codeAt_of (o b p) 0 ⟨r.val / 96, by omega⟩ ⟨r.val % 96, by omega⟩ (fun d => k0_pay6 (F := Ideal) x0 x5 x6 x1 x2 (ix4 b p ⟨r.val / 96, by omega⟩ d))
    (fun d => hk b p _ d) _ (by show 0 * 192 + r.val = 0 * 192 + (r.val / 96 * 96 + r.val % 96); omega)

/-- The key scales, -/
theorem out8_apply (hk : ∀ b p (n : Fin 2) (d : Fin 96), k0_pay6 (F := Ideal) x0 x5 x6 x1 x2 (ix4 b p n d) = o b p ⟨(0 : Fin 2).val * 192 + (n.val * 96 + d.val), by show 0 * 192 + _ < _; omega⟩)
    (b : Fin 32) (n : Fin 2) (p : Fin 2048) :
    out0_8 (F := Ideal) x0 x1 x2 x3 x4 x5 x6 (ix3 b n p) = Spec.scaleAt (o b p) ⟨(0 : Fin 2).val * 2 + n.val, by show 0 * 2 + _ < _; omega⟩ := by
  rw [out8_eq, pay2_apply, pay12_eq, eV_apply, tR_apply]
  exact Spec.scaleAt_of (o b p) 0 n (fun d => k0_pay6 (F := Ideal) x0 x5 x6 x1 x2 (ix4 b p n d)) (fun d => hk b p n d) _ rfl

/-- the value codes, -/
theorem out9_apply (hv : ∀ b p (n : Fin 2) (d : Fin 96), k0_pay13 (F := Ideal) x0 x3 x4 (ix4 b p n d) = o b p ⟨(1 : Fin 2).val * 192 + (n.val * 96 + d.val), by show 1 * 192 + _ < _; omega⟩)
    (b : Fin 32) (r : Fin 192) (p : Fin 2048) :
    out0_9 (F := Ideal) x0 x1 x2 x3 x4 x5 x6 (ix3 b r p) = Spec.codeAt (o b p) ⟨(1 : Fin 2).val * 192 + r.val, by show 1 * 192 + _ < _; omega⟩ := by
  have h : ∀ j, k0_pay15 (F := Ideal) x0 x3 x4 j = Ideal.ofBits .f32 0x00000000#32 - eV (tR (k0_pay13 x0 x3 x4)) j := by
    intro j
    unfold k0_pay15
    rw [pay14_eq]
    exact subf_apply _ _ _
  rw [out9_eq, pay5_eq, pay3_apply, h, eV_apply, tR_apply]
  exact Spec.codeAt_of (o b p) 1 ⟨r.val / 96, by omega⟩ ⟨r.val % 96, by omega⟩ (fun d => k0_pay13 (F := Ideal) x0 x3 x4 (ix4 b p ⟨r.val / 96, by omega⟩ d))
    (fun d => hv b p _ d) _ (by show 1 * 192 + r.val = 1 * 192 + (r.val / 96 * 96 + r.val % 96); omega)

/-- and the value scales. -/
theorem out10_apply (hv : ∀ b p (n : Fin 2) (d : Fin 96), k0_pay13 (F := Ideal) x0 x3 x4 (ix4 b p n d) = o b p ⟨(1 : Fin 2).val * 192 + (n.val * 96 + d.val), by show 1 * 192 + _ < _; omega⟩)
    (b : Fin 32) (n : Fin 2) (p : Fin 2048) :
    out0_10 (F := Ideal) x0 x1 x2 x3 x4 x5 x6 (ix3 b n p) = Spec.scaleAt (o b p) ⟨(1 : Fin 2).val * 2 + n.val, by show 1 * 2 + _ < _; omega⟩ := by
  rw [out10_eq, pay5_eq, pay4_apply, pay14_eq, eV_apply, tR_apply]
  exact Spec.scaleAt_of (o b p) 1 n (fun d => k0_pay13 (F := Ideal) x0 x3 x4 (ix4 b p n d)) (fun d => hv b p n d) _ rfl

end outs

variable (m : (ℓ : Loc nD τ sig) → Buf (Elt Ideal) ℓ) (c : Dev nD)

/-- The rows of a position, from the reference's arguments. -/
def oM (b : Fin 32) (p : Fin 2048) : Fin 384 → EReal :=
  Spec.oA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b p

theorem idx0 : ∀ t : Fin cfg0.N, win0_0.index t = ![0, 0, 0] := (by decide +kernel : ∀ t : Fin grid0.N, win0_0.index t = ![0, 0, 0])
theorem idx1 : ∀ t : Fin cfg0.N, win0_1.index t = ![0, 0] := (by decide +kernel : ∀ t : Fin grid0.N, win0_1.index t = ![0, 0])
theorem idx2 : ∀ t : Fin cfg0.N, win0_2.index t = ![0] := (by decide +kernel : ∀ t : Fin grid0.N, win0_2.index t = ![0])
theorem idx3 : ∀ t : Fin cfg0.N, win0_3.index t = ![0, 0] := (by decide +kernel : ∀ t : Fin grid0.N, win0_3.index t = ![0, 0])
theorem idx4 : ∀ t : Fin cfg0.N, win0_4.index t = ![0] := (by decide +kernel : ∀ t : Fin grid0.N, win0_4.index t = ![0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0, 0] := (by decide +kernel : ∀ t : Fin grid0.N, win0_7.index t = ![0, 0, 0])
theorem idx8 : ∀ t : Fin cfg0.N, win0_8.index t = ![0, 0, 0] := (by decide +kernel : ∀ t : Fin grid0.N, win0_8.index t = ![0, 0, 0])
theorem idx9 : ∀ t : Fin cfg0.N, win0_9.index t = ![0, 0, 0] := (by decide +kernel : ∀ t : Fin grid0.N, win0_9.index t = ![0, 0, 0])
theorem idx10 : ∀ t : Fin cfg0.N, win0_10.index t = ![0, 0, 0] := (by decide +kernel : ∀ t : Fin grid0.N, win0_10.index t = ![0, 0, 0])

theorem blk0 (t : Fin cfg0.N) (b : Fin 32) (p : Fin 2048) (k : Fin 1024) : (iblk m c 0 t : S32x2048x1024.Idx → EReal) (ix3 b p k) = Spec.nrm (fun k => (m ((c : Thread nD τ).loc main_arg0) : S32x2048x1024.Idx → EReal) (ix3 b p k)) (fun k => (m ((c : Thread nD τ).loc main_arg1) : S1024.Idx → EReal) (ix1 k)) k := by
  rw [← hv14 m c b p k]
  blk_simp [iblk]
  refine congrArg (V m c main_v14) ?_
  blk_ext [idx0 t]

theorem blk1 (t : Fin cfg0.N) (k : Fin 1024) (r : Fin 192) : (iblk m c 1 t : S1024x192.Idx → EReal) (ix2 k r) = (m ((c : Thread nD τ).loc main_arg2) : S1024x192.Idx → EReal) (ix2 k r) := by
  rw [← V_main_arg2 m c]
  blk_simp [iblk]
  refine congrArg (V m c main_arg2) ?_
  blk_ext [idx1 t]

theorem blk2 (t : Fin cfg0.N) (r : Fin 192) : (iblk m c 2 t : S192.Idx → EReal) (ix1 r) = (m ((c : Thread nD τ).loc main_arg3) : S192.Idx → EReal) (ix1 r) := by
  rw [← V_main_arg3 m c]
  blk_simp [iblk]
  refine congrArg (V m c main_arg3) ?_
  blk_ext [idx2 t]

theorem blk3 (t : Fin cfg0.N) (k : Fin 1024) (r : Fin 192) : (iblk m c 3 t : S1024x192.Idx → EReal) (ix2 k r) = (m ((c : Thread nD τ).loc main_arg4) : S1024x192.Idx → EReal) (ix2 k r) := by
  rw [← V_main_arg4 m c]
  blk_simp [iblk]
  refine congrArg (V m c main_arg4) ?_
  blk_ext [idx3 t]

theorem blk4 (t : Fin cfg0.N) (r : Fin 192) : (iblk m c 4 t : S192.Idx → EReal) (ix1 r) = (m ((c : Thread nD τ).loc main_arg5) : S192.Idx → EReal) (ix1 r) := by
  rw [← V_main_arg5 m c]
  blk_simp [iblk]
  refine congrArg (V m c main_arg5) ?_
  blk_ext [idx4 t]

theorem blk5 (t : Fin cfg0.N) (p : Fin 2048) (r : Fin 48) : (iblk m c 5 t : S2048x48.Idx → EReal) (ix2 p r) = Ideal.cos (Spec.angF p r) := by
  rw [← hv30 m c p r]
  blk_simp [iblk]
  refine congrArg (V m c main_v30) ?_
  blk_ext [idx5 t]

theorem blk6 (t : Fin cfg0.N) (p : Fin 2048) (r : Fin 48) : (iblk m c 6 t : S2048x48.Idx → EReal) (ix2 p r) = Ideal.sin (Spec.angF p r) := by
  rw [← hv31 m c p r]
  blk_simp [iblk]
  refine congrArg (V m c main_v31) ?_
  blk_ext [idx6 t]

/-- The rotated keys, -/
theorem keys_eq (t : Fin cfg0.N) (b : Fin 32) (p : Fin 2048) (n : Fin 2) (d : Fin 96) :
    k0_pay6 (F := Ideal) (iblk m c 0 t) (iblk m c 5 t) (iblk m c 6 t) (iblk m c 1 t) (iblk m c 2 t) (ix4 b p n d)
      = oM m c b p ⟨(0 : Fin 2).val * 192 + (n.val * 96 + d.val), by show 0 * 192 + _ < _; omega⟩ := by
  refine (pay6_row (iblk m c 0 t) (iblk m c 1 t) (iblk m c 2 t) (iblk m c 5 t) (iblk m c 6 t) b p n d (fun k => (m ((c : Thread nD τ).loc main_arg0) : S32x2048x1024.Idx → EReal) (ix3 b p k)) (fun k => (m ((c : Thread nD τ).loc main_arg1) : S1024.Idx → EReal) (ix1 k))
      (fun k r => (m ((c : Thread nD τ).loc main_arg2) : S1024x192.Idx → EReal) (ix2 k r)) (fun k r => (m ((c : Thread nD τ).loc main_arg4) : S1024x192.Idx → EReal) (ix2 k r))
      (fun r => (m ((c : Thread nD τ).loc main_arg3) : S192.Idx → EReal) (ix1 r)) (fun r => (m ((c : Thread nD τ).loc main_arg5) : S192.Idx → EReal) (ix1 r))
      (fun r => Ideal.cos (Spec.angF p r)) (fun r => Ideal.sin (Spec.angF p r))
      (blk0 m c t b p) (blk1 m c t) (blk2 m c t) (blk5 m c t p) (blk6 m c t p)).trans ?_
  exact congrArg (oM m c b p) (Fin.ext (by show n.val * 96 + d.val = 0 * 192 + (n.val * 96 + d.val); omega))

/-- and the values. -/
theorem values_eq (t : Fin cfg0.N) (b : Fin 32) (p : Fin 2048) (n : Fin 2) (d : Fin 96) :
    k0_pay13 (F := Ideal) (iblk m c 0 t) (iblk m c 3 t) (iblk m c 4 t) (ix4 b p n d)
      = oM m c b p ⟨(1 : Fin 2).val * 192 + (n.val * 96 + d.val), by show 1 * 192 + _ < _; omega⟩ := by
  refine (pay13_row (iblk m c 0 t) (iblk m c 3 t) (iblk m c 4 t) b p n d (fun k => (m ((c : Thread nD τ).loc main_arg0) : S32x2048x1024.Idx → EReal) (ix3 b p k)) (fun k => (m ((c : Thread nD τ).loc main_arg1) : S1024.Idx → EReal) (ix1 k))
      (fun k r => (m ((c : Thread nD τ).loc main_arg2) : S1024x192.Idx → EReal) (ix2 k r)) (fun k r => (m ((c : Thread nD τ).loc main_arg4) : S1024x192.Idx → EReal) (ix2 k r))
      (fun r => (m ((c : Thread nD τ).loc main_arg3) : S192.Idx → EReal) (ix1 r)) (fun r => (m ((c : Thread nD τ).loc main_arg5) : S192.Idx → EReal) (ix1 r))
      (fun r => Ideal.cos (Spec.angF p r)) (fun r => Ideal.sin (Spec.angF p r))
      (blk0 m c t b p) (blk3 m c t) (blk4 m c t)).trans ?_
  exact congrArg (oM m c b p) (Fin.ext (by show 192 + (n.val * 96 + d.val) = 1 * 192 + (n.val * 96 + d.val); omega))

/-- The key codes after the run. -/
theorem final7 : (dats m 0 c).arrAt 7 cfg0.N = Spec.codesA (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) 0 := by
  refine (dats m 0 c).arrAt_eq_of_covers 7 _ (by decide +kernel) fun t hf y => ?_
  blk_simp
  rw [after0_7]
  have e : (win0_7.blk t).view.emb y = y := by
    blk_ext [idx7 t]
  refine Eq.trans ?_ (congrArg (Spec.codesA _ _ _ _ _ _ 0) e.symm)
  refine (congrArg (out0_7 (F := Ideal) _ _ _ _ _ _ _) (eq_ix3 y)).trans ?_
  exact out7_apply _ _ _ _ _ _ _ (oM m c) (keys_eq m c t) (y 0) (y 1) (y 2)

/-- The key scales after the run. -/
theorem final8 : (dats m 0 c).arrAt 8 cfg0.N = Spec.scalesA (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) 0 := by
  refine (dats m 0 c).arrAt_eq_of_covers 8 _ (by decide +kernel) fun t hf y => ?_
  blk_simp
  rw [after0_8]
  have e : (win0_8.blk t).view.emb y = y := by
    blk_ext [idx8 t]
  refine Eq.trans ?_ (congrArg (Spec.scalesA _ _ _ _ _ _ 0) e.symm)
  refine (congrArg (out0_8 (F := Ideal) _ _ _ _ _ _ _) (eq_ix3 y)).trans ?_
  exact out8_apply _ _ _ _ _ _ _ (oM m c) (keys_eq m c t) (y 0) (y 1) (y 2)

/-- The value codes after the run. -/
theorem final9 : (dats m 0 c).arrAt 9 cfg0.N = Spec.codesA (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) 1 := by
  refine (dats m 0 c).arrAt_eq_of_covers 9 _ (by decide +kernel) fun t hf y => ?_
  blk_simp
  rw [after0_9]
  have e : (win0_9.blk t).view.emb y = y := by
    blk_ext [idx9 t]
  refine Eq.trans ?_ (congrArg (Spec.codesA _ _ _ _ _ _ 1) e.symm)
  refine (congrArg (out0_9 (F := Ideal) _ _ _ _ _ _ _) (eq_ix3 y)).trans ?_
  exact out9_apply _ _ _ _ _ _ _ (oM m c) (values_eq m c t) (y 0) (y 1) (y 2)

/-- The value scales after the run. -/
theorem final10 : (dats m 0 c).arrAt 10 cfg0.N = Spec.scalesA (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) 1 := by
  refine (dats m 0 c).arrAt_eq_of_covers 10 _ (by decide +kernel) fun t hf y => ?_
  blk_simp
  rw [after0_10]
  have e : (win0_10.blk t).view.emb y = y := by
    blk_ext [idx10 t]
  refine Eq.trans ?_ (congrArg (Spec.scalesA _ _ _ _ _ _ 1) e.symm)
  refine (congrArg (out0_10 (F := Ideal) _ _ _ _ _ _ _) (eq_ix3 y)).trans ?_
  exact out10_apply _ _ _ _ _ _ _ (oM m c) (values_eq m c t) (y 0) (y 1) (y 2)

end Cert.ReferenceIdeal.Val
-- ==== Proof.RefEnds.lean ====
/-
  What each program's run ends with, in the specification's words.
-/
module

public import proofs.«01_k».proof.Proof.RefArrays

@[expose] public section

set_option maxRecDepth 16384

noncomputable section

namespace Cert.ReferenceIdeal.Val

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

/-- Every run ends, the four arrays as the specification has them, the arguments kept. -/
theorem ends : θ_run defs (onTc (τ := τ) (main (F := Ideal))) ⟨m, fun _ => 0, ρ⟩ (fun r => ∀ c : Dev nD,
      r.2.mem ((c.tc : Thread nD τ).loc main_v32_0) = Spec.codesA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 0
      ∧ r.2.mem ((c.tc : Thread nD τ).loc main_v32_1) = Spec.scalesA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 0
      ∧ r.2.mem ((c.tc : Thread nD τ).loc main_v32_2) = Spec.codesA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 1
      ∧ r.2.mem ((c.tc : Thread nD τ).loc main_v32_3) = Spec.scalesA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 7).trans (final7 m c),
      ((h c).1 8).trans (final8 m c),
      ((h c).1 9).trans (final9 m c),
      ((h c).1 10).trans (final10 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c)))⟩) (Gen.run_main m ρ)

end Cert.ReferenceIdeal.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Frame
public import proofs.«01_k».proof.Proof.FrameKernel
public import proofs.«01_k».proof.Proof.FrameIdeal
public import proofs.«01_k».proof.Proof.KernelEnds
public import proofs.«01_k».proof.Proof.RefEnds
public import Idealize.ShloMosaic.Adequacy
public import Idealize.ShloMosaic.Init

@[expose] public section

noncomputable section

namespace Cert.Proof

open Idealize.ShloMosaic Idealize.SL.Sem

/-- From the same arguments, the idealized kernel and the reference end with the same four arrays. -/
theorem algebraic [Cert.KernelIdeal.Facts] [Cert.ReferenceIdeal.Facts] : Cert.algebraic_KernelIdeal_ReferenceIdeal := by
  intro m g m' g' _ hargs
  refine ⟨fun c => Cert.Spec.codesA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) 0,
    fun c => Cert.Spec.scalesA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) 0,
    fun c => Cert.Spec.codesA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) 1,
    fun c => Cert.Spec.scalesA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) 1,
    Cert.KernelIdeal.Val.ends m g, (θ_run _ _ _).mono (fun r h c => ?_) (Cert.ReferenceIdeal.Val.ends m' g')⟩
  obtain ⟨e0, e1, e2, e3, e4, e5⟩ := hargs c
  obtain ⟨h0, h1, h2, h3, hr⟩ := h c
  rw [e0, e1, e2, e3, e4, e5] at h0 h1 h2 h3
  exact ⟨h0, h1, h2, h3, hr⟩

/-- The claims: the three frames, that the idealized kernel keeps the kernel's shapes and arguments, and that it computes what the reference computes. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ, trivial,
  @algebraic Cert.KernelIdeal.Gen.facts Cert.ReferenceIdeal.Gen.facts⟩

end Cert.Proof

end
